-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bucket_named [hPre_bucket_named : Cert.Pre_bucket_named.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bucket_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bucket_named [hPre_bucket_named : Cert.Pre_bucket_named.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bucket_named.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_bucket_named [hKernel5Ideal : Cert.Kernel5Ideal.Facts] [hPre_bucket_named : Cert.Pre_bucket_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bucket_named m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_bucket_named [hReference5Ideal : Cert.Reference5Ideal.Facts] [hPre_bucket_named : Cert.Pre_bucket_named.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bucket_named m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_bucket_named [hKernel5Ideal : Cert.Kernel5Ideal.Facts] [hReference5Ideal : Cert.Reference5Ideal.Facts] [hPre_bucket_named : Cert.Pre_bucket_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bucket_named m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_bucket_named : Cert.Pre_bucket_named.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bucket_named (hKernel5Ideal := hKernel5Ideal) (hPre_bucket_named := hPre_bucket_named)
    ∧ quiescent_Reference5Ideal (hReference5Ideal := hReference5Ideal)
    ∧ quiescent_Reference5Ideal_pre_bucket_named (hReference5Ideal := hReference5Ideal) (hPre_bucket_named := hPre_bucket_named)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bucket_named (hKernel5Ideal := hKernel5Ideal) (hReference5Ideal := hReference5Ideal) (hPre_bucket_named := hPre_bucket_named)
-- ==== Pre_bucket_named.lean ====
abbrev S32x8 : Shape := ⟨2, ![32, 8]⟩
abbrev S128x384 : Shape := ⟨2, ![128, 384]⟩
abbrev S_ : Shape := ⟨0, ![]⟩

class Facts : Prop where
  bcast_S_S128x384 : S_.BroadcastsInDim S128x384 (![] : Fin 0 → Fin S128x384.rank)

variable [Facts]

def fn {F : FTy → Type} [FloatOps F] (main_arg0 : FVec F S32x8 .f32) (main_arg1 : IVec S128x384 32) : IVec S128x384 1 :=
  let main_c : IVec S_ 32 := constantI S_ 32 0#32
  let main_v0 : IVec S128x384 32 := broadcastInDim S128x384 ![] bcast_S_S128x384 main_c
  let main_v1 : IVec S128x384 1 := cmpi .sge main_arg1 main_v0
  let main_c_0 : IVec S_ 32 := constantI S_ 32 32#32
  let main_v2 : IVec S128x384 32 := broadcastInDim S128x384 ![] bcast_S_S128x384 main_c_0
  let main_v3 : IVec S128x384 1 := cmpi .slt main_arg1 main_v2
  let main_v4 : IVec S128x384 1 := andi main_v1 main_v3
  main_v4
-- ==== Kernel2.lean ====
abbrev S32768x2048 : Shape := ⟨2, ![32768, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S1x2048 : Shape := ⟨2, ![1, 2048]⟩
abbrev S256x2048 : Shape := ⟨2, ![256, 2048]⟩
abbrev S2048x512 : Shape := ⟨2, ![2048, 512]⟩
abbrev S256x512 : Shape := ⟨2, ![256, 512]⟩
abbrev S1x512 : Shape := ⟨2, ![1, 512]⟩
abbrev S256x1024 : Shape := ⟨2, ![256, 1024]⟩
abbrev S1024x512 : Shape := ⟨2, ![1024, 512]⟩
abbrev S512x512 : Shape := ⟨2, ![512, 512]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x6144, .f32⟩
  | .hbm, ⟨3, _⟩ => ⟨S6144, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x6144, .bf16⟩
  | .hbm, ⟨9, _⟩ => ⟨S1x6144, .f32⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x6144, .bf16⟩
  | .local _ .vmem, ⟨5, _⟩ => ⟨S1x6144, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x2048 : Shape := ⟨2, ![32768, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S32768x1024 : Shape := ⟨2, ![32768, 1024]⟩
abbrev S32768x512 : Shape := ⟨2, ![32768, 512]⟩
abbrev S32768x6144 : Shape := ⟨2, ![32768, 6144]⟩
abbrev S1x6144 : Shape := ⟨2, ![1, 6144]⟩
abbrev S_ : Shape := ⟨0, ![]⟩
abbrev S32768x3x2048 : Shape := ⟨3, ![32768, 3, 2048]⟩
abbrev S32768x1x2048 : Shape := ⟨3, ![32768, 1, 2048]⟩
abbrev S1024x2048 : Shape := ⟨2, ![1024, 2048]⟩
abbrev S512x2048 : Shape := ⟨2, ![512, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x6144, .f32⟩
  | .hbm, ⟨3, _⟩ => ⟨S6144, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S32768x2048, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S32768x6144, .f32⟩
  | .hbm, ⟨13, _⟩ => ⟨S1x6144, .f32⟩
  | .hbm, ⟨14, _⟩ => ⟨S32768x6144, .f32⟩
  | .hbm, ⟨15, _⟩ => ⟨S32768x6144, .f32⟩
  | .hbm, ⟨16, _⟩ => ⟨S32768x6144, .f32⟩
  | .hbm, ⟨17, _⟩ => ⟨S32768x6144, .f32⟩
  | .hbm, ⟨18, _⟩ => ⟨S_, .f32⟩
  | .hbm, ⟨19, _⟩ => ⟨S32768x6144, .f32⟩
  | .hbm, ⟨20, _⟩ => ⟨S32768x6144, .f32⟩
  | .hbm, ⟨21, _⟩ => ⟨S_, .f32⟩
  | .hbm, ⟨22, _⟩ => ⟨S32768x6144, .f32⟩
  | .hbm, ⟨23, _⟩ => ⟨S32768x6144, .f32⟩
  | .hbm, ⟨24, _⟩ => ⟨S32768x3x2048, .f32⟩
  | .hbm, ⟨25, _⟩ => ⟨S32768x1x2048, .f32⟩
  | .hbm, ⟨26, _⟩ => ⟨S32768x2048, .f32⟩
  | .hbm, ⟨27, _⟩ => ⟨S1024x2048, .f32⟩
  | .hbm, ⟨28, _⟩ => ⟨S32768x2048, .f32⟩
  | .hbm, ⟨29, _⟩ => ⟨S32768x2048, .f32⟩
  | .hbm, ⟨30, _⟩ => ⟨S32768x1x2048, .f32⟩
  | .hbm, ⟨31, _⟩ => ⟨S32768x2048, .f32⟩
  | .hbm, ⟨32, _⟩ => ⟨S512x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x1x2048, .f32⟩
  | .hbm, ⟨37, _⟩ => ⟨S32768x2048, .f32⟩
  | .hbm, ⟨38, _⟩ => ⟨S512x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x2048, .f32⟩
  | .hbm, ⟨63, _⟩ => ⟨S32768x2048, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x2048, .f32⟩
  | .hbm, ⟨69, _⟩ => ⟨S32768x2048, .f32⟩
  | .hbm, ⟨70, _⟩ => ⟨S1x2048, .f32⟩
  | .hbm, ⟨71, _⟩ => ⟨S32768x2048, .f32⟩
  | .hbm, ⟨72, _⟩ => ⟨S32768x2048, .f32⟩
  | .hbm, ⟨73, _⟩ => ⟨S1x2048, .f32⟩
  | .hbm, ⟨74, _⟩ => ⟨S32768x2048, .f32⟩
  | .hbm, ⟨75, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel3.lean ====
abbrev S32768x2048 : Shape := ⟨2, ![32768, 2048]⟩
abbrev S2048x11008 : Shape := ⟨2, ![2048, 11008]⟩
abbrev S5504x2048 : Shape := ⟨2, ![5504, 2048]⟩
abbrev S2048 : Shape := ⟨1, ![2048]⟩
abbrev S2048x128 : Shape := ⟨2, ![2048, 128]⟩
abbrev S2048x256 : Shape := ⟨2, ![2048, 256]⟩
abbrev S1x2048 : Shape := ⟨2, ![1, 2048]⟩
abbrev S2048x1024 : Shape := ⟨2, ![2048, 1024]⟩
abbrev S1024x2048 : Shape := ⟨2, ![1024, 2048]⟩
abbrev S_ : Shape := ⟨0, ![]⟩
abbrev S256x2048 : Shape := ⟨2, ![256, 2048]⟩
abbrev S256x1024 : Shape := ⟨2, ![256, 1024]⟩
abbrev S1024x1024 : Shape := ⟨2, ![1024, 1024]⟩
abbrev S256x256 : Shape := ⟨2, ![256, 256]⟩
abbrev S256x128 : Shape := ⟨2, ![256, 128]⟩
abbrev S256x384 : Shape := ⟨2, ![256, 384]⟩
abbrev S384x2048 : Shape := ⟨2, ![384, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S2048x11008, .bf16⟩
  | .hbm, ⟨6, _⟩ => ⟨S2048x128, .bf16⟩
  | .hbm, ⟨7, _⟩ => ⟨S2048x128, .bf16⟩
  | .hbm, ⟨8, _⟩ => ⟨S2048x256, .bf16⟩
  | .hbm, ⟨9, _⟩ => ⟨S5504x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x256, .bf16⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c1024_i32 : BitVec 32 := 1024#32
  let v35 : BitVec 32 := Scalar.muli arg0 c1024_i32
  let c0_i32_16 : BitVec 32 := 0#32
  ![v35.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c0_i32_4 : BitVec 32 := 0#32
  let v9 : BitVec 1 := Scalar.cmpi .sgt arg0 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_off2 (i : grid0.Coords) : Fin 2 → Nat :=
  let arg0 : BitVec 32 := BitVec.ofNat 32 (i 0).val
  let c1_i32_16 : BitVec 32 := 1#32
  let v35 : BitVec 32 := Scalar.subi arg0 c1_i32_16
  let c1024_i32 : BitVec 32 := 1024#32
  let v36 : BitVec 32 := Scalar.muli v35 c1024_i32
  let c0_i32_17 : BitVec 32 := 0#32
  ![v36.toNat, 0]
def k0_cond5 (i : grid0.Coords) : BitVec 1 :=
  let arg1 : BitVec 32 := BitVec.ofNat 32 (i 1).val
  let c2_i32 : BitVec 32 := 2#32
  let v16 : BitVec 1 := Scalar.cmpi .eq arg1 c2_i32
  let arg0 : BitVec 32 := BitVec.ofNat 32 (i 0).val
  let c1_i32_8 : BitVec 32 := 1#32
  let v17 : BitVec 32 := Scalar.addi arg0 c1_i32_8
  let c32_i32 : BitVec 32 := 32#32
  let v18 : BitVec 1 := Scalar.cmpi .slt v17 c32_i32
  let v19 : BitVec 1 := Scalar.andi v16 v18
  let v20 : BitVec 32 := Scalar.extui v19
  let c0_i32_9 : BitVec 32 := 0#32
  let v21 : BitVec 1 := Scalar.cmpi .ne v20 c0_i32_9
  v21

def k0_off3 (i : grid0.Coords) : Fin 2 → Nat :=
  let arg0 : BitVec 32 := BitVec.ofNat 32 (i 0).val
  let c1_i32_16 : BitVec 32 := 1#32
  let v35 : BitVec 32 := Scalar.addi arg0 c1_i32_16
  let c1024_i32 : BitVec 32 := 1024#32
  let v36 : BitVec 32 := Scalar.muli v35 c1024_i32
  let c0_i32_17 : BitVec 32 := 0#32
  ![v36.toNat, 0]
def k0_cond7 (i : grid0.Coords) : BitVec 1 :=
  let arg1 : BitVec 32 := BitVec.ofNat 32 (i 1).val
  let c5_i32_12 : BitVec 32 := 5#32
  let v27 : BitVec 1 := Scalar.cmpi .eq arg1 c5_i32_12
  let v28 : BitVec 32 := Scalar.extui v27
  let c0_i32_13 : BitVec 32 := 0#32
  let v29 : BitVec 1 := Scalar.cmpi .ne v28 c0_i32_13
  v29

def k0_off4 (i : grid0.Coords) : Fin 2 → Nat :=
  let arg0 : BitVec 32 := BitVec.ofNat 32 (i 0).val
  let c1024_i32 : BitVec 32 := 1024#32
  let v243 : BitVec 32 := Scalar.muli arg0 c1024_i32
  let c0_i32_122 : BitVec 32 := 0#32
  ![v243.toNat, 0]
def k0_cond8 (i : grid0.Coords) : BitVec 1 :=
  let arg1 : BitVec 32 := BitVec.ofNat 32 (i 1).val
  let c5_i32_14 : BitVec 32 := 5#32
  let v30 : BitVec 1 := Scalar.cmpi .eq arg1 c5_i32_14
  let arg0 : BitVec 32 := BitVec.ofNat 32 (i 0).val
  let c31_i32 : BitVec 32 := 31#32
  let v31 : BitVec 1 := Scalar.cmpi .eq arg0 c31_i32
  let v32 : BitVec 1 := Scalar.andi v30 v31
  let v33 : BitVec 32 := Scalar.extui v32
  let c0_i32_15 : BitVec 32 := 0#32
  let v34 : BitVec 1 := Scalar.cmpi .ne v33 c0_i32_15
  v34

def k0_off5 (i : grid0.Coords) : Fin 2 → Nat :=
  let arg0 : BitVec 32 := BitVec.ofNat 32 (i 0).val
  let c1024_i32 : BitVec 32 := 1024#32
  let v35 : BitVec 32 := Scalar.muli arg0 c1024_i32
  let c0_i32_16 : BitVec 32 := 0#32
  ![v35.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c43_i32 : BitVec 32 := 43#32
  let v1 : BitVec 32 := Scalar.addi c43_i32 v0
  let c78_i32 : BitVec 32 := 78#32
  let v2 : BitVec 32 := Scalar.minsi v1 c78_i32
  let c128_i32 : BitVec 32 := 128#32
  let v3 : BitVec 32 := Scalar.muli c128_i32 v2
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference3Ideal.lean ====
abbrev S32768x2048 : Shape := ⟨2, ![32768, 2048]⟩
abbrev S2048x11008 : Shape := ⟨2, ![2048, 11008]⟩
abbrev S5504x2048 : Shape := ⟨2, ![5504, 2048]⟩
abbrev S2048 : Shape := ⟨1, ![2048]⟩
abbrev S_ : Shape := ⟨0, ![]⟩
abbrev S32768x11008 : Shape := ⟨2, ![32768, 11008]⟩
abbrev S32768x5504 : Shape := ⟨2, ![32768, 5504]⟩
abbrev S32768 : Shape := ⟨1, ![32768]⟩
abbrev S32768x1 : Shape := ⟨2, ![32768, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x11008, .f32⟩
  | .hbm, ⟨9, _⟩ => ⟨S32768x5504, .f32⟩
  | .hbm, ⟨10, _⟩ => ⟨S32768x5504, .f32⟩
  | .hbm, ⟨11, _⟩ => ⟨S32768x5504, .f32⟩
  | .hbm, ⟨12, _⟩ => ⟨S32768x5504, .f32⟩
  | .hbm, ⟨13, _⟩ => ⟨S_, .f32⟩
  | .hbm, ⟨14, _⟩ => ⟨S32768x5504, .f32⟩
  | .hbm, ⟨15, _⟩ => ⟨S32768x5504, .f32⟩
  | .hbm, ⟨16, _⟩ => ⟨S_, .f32⟩
  | .hbm, ⟨17, _⟩ => ⟨S32768x5504, .f32⟩
  | .hbm, ⟨18, _⟩ => ⟨S32768x5504, .f32⟩
  | .hbm, ⟨19, _⟩ => ⟨S32768x5504, .f32⟩
  | .hbm, ⟨20, _⟩ => ⟨S32768x5504, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S2048x1024, .bf16⟩
  | .hbm, ⟨3, _⟩ => ⟨S4096x1024, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S32x8 : Shape := ⟨2, ![32, 8]⟩
abbrev S128x384 : Shape := ⟨2, ![128, 384]⟩
abbrev S4x8x128x384 : Shape := ⟨4, ![4, 8, 128, 384]⟩
abbrev S1x1 : Shape := ⟨2, ![1, 1]⟩
abbrev S1x1x128x384 : Shape := ⟨4, ![1, 1, 128, 384]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S128x384, .i32⟩
  | .hbm, ⟨2, _⟩ => ⟨S4x8x128x384, .f32⟩
  | .local _ .vmem, ⟨0, _⟩ => ⟨S128x384, .i32⟩
  | .local _ .vmem, ⟨1, _⟩ => ⟨S4x8x128x384, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference5Ideal.lean ====
abbrev S32x8 : Shape := ⟨2, ![32, 8]⟩
abbrev S128x384 : Shape := ⟨2, ![128, 384]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S1x1x128x384 : Shape := ⟨4, ![1, 1, 128, 384]⟩
abbrev S4x1x1x1 : Shape := ⟨4, ![4, 1, 1, 1]⟩
abbrev S4x1x128x384 : Shape := ⟨4, ![4, 1, 128, 384]⟩
abbrev S1x8x128x384 : Shape := ⟨4, ![1, 8, 128, 384]⟩
abbrev S4x8x128x384 : Shape := ⟨4, ![4, 8, 128, 384]⟩

abbrev nBuf : Space → Nat
  | .hbm => 76
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128x384, .i32⟩
  | .hbm, ⟨2, _⟩ => ⟨S_, .i32⟩
  | .hbm, ⟨3, _⟩ => ⟨S128x384, .i32⟩
  | .hbm, ⟨4, _⟩ => ⟨S128x384, .i1⟩
  | .hbm, ⟨5, _⟩ => ⟨S_, .i32⟩
  | .hbm, ⟨6, _⟩ => ⟨S128x384, .i32⟩
  | .hbm, ⟨7, _⟩ => ⟨S128x384, .i32⟩
  | .hbm, ⟨8, _⟩ => ⟨S128x384, .i32⟩
  | .hbm, ⟨9, _⟩ => ⟨S128x384x1, .i32⟩
  | .hbm, ⟨10, _⟩ => ⟨S128x384x8, .f32⟩
  | .hbm, ⟨11, _⟩ => ⟨S8x128x384, .f32⟩
  | .hbm, ⟨12, _⟩ => ⟨S1x1x128x384, .i32⟩
  | .hbm, ⟨13, _⟩ => ⟨S1x1x128x384, .i32⟩
  | .hbm, ⟨14, _⟩ => ⟨S4x1x1x1, .i32⟩
  | .hbm, ⟨15, _⟩ => ⟨S_, .i32⟩
  | .hbm, ⟨16, _⟩ => ⟨S1x1x128x384, .i32⟩
  | .hbm, ⟨17, _⟩ => ⟨S1x1x128x384, .i32⟩
  | .hbm, ⟨18, _⟩ => ⟨S1x1x128x384, .i32⟩
  | .hbm, ⟨19, _⟩ => ⟨S1x1x128x384, .i32⟩
  | .hbm, ⟨20, _⟩ => ⟨S_, .i32⟩
  | .hbm, ⟨21, _⟩ => ⟨S1x1x128x384, .i32⟩
  | .hbm, ⟨22, _⟩ => ⟨S1x1x128x384, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4x1x1x1, .i32⟩
  | .hbm, ⟨30, _⟩ => ⟨S4x1x1x1, .i32⟩
  | .hbm, ⟨31, _⟩ => ⟨S_, .i32⟩
  | .hbm, ⟨32, _⟩ => ⟨S4x1x1x1, .i32⟩
  | .hbm, ⟨33, _⟩ => ⟨S4x1x1x1, .i1⟩
  | .hbm, ⟨34, _⟩ => ⟨S_, .i32⟩
  | .hbm, ⟨35, _⟩ => ⟨S4x1x1x1, .i32⟩
  | .hbm, ⟨36, _⟩ => ⟨S4x1x1x1, .i1⟩
  | .hbm, ⟨37, _⟩ => ⟨S_, .i32⟩
  | .hbm, ⟨38, _⟩ => ⟨S_, .i1⟩
  | .hbm, ⟨39, _⟩ => ⟨S4x1x1x1, .i1⟩
  | .hbm, ⟨40, _⟩ => ⟨S4x1x1x1, .i1⟩
  | .hbm, ⟨41, _⟩ => ⟨S4x1x1x1, .i1⟩
  | .hbm, ⟨42, _⟩ => ⟨S4x1x1x1, .i32⟩
  | .hbm, ⟨43, _⟩ => ⟨S4x1x1x1, .i32⟩
  | .hbm, ⟨44, _⟩ => ⟨S4x1x1x1, .i32⟩
  | .hbm, ⟨45, _⟩ => ⟨S_, .i32⟩
  | .hbm, ⟨46, _⟩ => ⟨S4x1x1x1, .i32⟩
  | .hbm, ⟨47, _⟩ => ⟨S4x1x1x1, .i1⟩
  | .hbm, ⟨48, _⟩ => ⟨S_, .i32⟩
  | .hbm, ⟨49, _⟩ => ⟨S1x1x128x384, .i32⟩
  | .hbm, ⟨50, _⟩ => ⟨S1x1x128x384, .i1⟩
  | .hbm, ⟨51, _⟩ => ⟨S4x1x128x384, .i1⟩
  | .hbm, ⟨52, _⟩ => ⟨S4x1x128x384, .i1⟩
  | .hbm, ⟨53, _⟩ => ⟨S4x1x128x384, .i1⟩
  | .hbm, ⟨54, _⟩ => ⟨S_, .i32⟩
  | .hbm, ⟨55, _⟩ => ⟨S4x1x1x1, .i32⟩
  | .hbm, ⟨56, _⟩ => ⟨S4x1x1x1, .i1⟩
  | .hbm, ⟨57, _⟩ => ⟨S_, .i32⟩
  | .hbm, ⟨58, _⟩ => ⟨S1x1x128x384, .i32⟩
  | .hbm, ⟨59, _⟩ => ⟨S1x1x128x384, .i1⟩
  | .hbm, ⟨60, _⟩ => ⟨S4x1x128x384, .i1⟩
  | .hbm, ⟨61, _⟩ => ⟨S4x1x128x384, .i1⟩
  | .hbm, ⟨62, _⟩ => ⟨S4x1x128x384, .i1⟩
  | .hbm, ⟨63, _⟩ => ⟨S4x1x128x384, .i1⟩
  | .hbm, ⟨64, _⟩ => ⟨S4x1x128x384, .i1⟩
  | .hbm, ⟨65, _⟩ => ⟨S4x1x128x384, .i1⟩
  | .hbm, ⟨66, _⟩ => ⟨S1x8x128x384, .f32⟩
  | .hbm, ⟨67, _⟩ => ⟨S_, .f32⟩
  | .hbm, ⟨68, _⟩ => ⟨S1x8x128x384, .f32⟩
  | .hbm, ⟨69, _⟩ => ⟨S1x8x128x384, .f32⟩
  | .hbm, ⟨70, _⟩ => ⟨S_, .f32⟩
  | .hbm, ⟨71, _⟩ => ⟨S_, .f32⟩
  | .hbm, ⟨72, _⟩ => ⟨S4x8x128x384, .i1⟩
  | .hbm, ⟨73, _⟩ => ⟨S4x8x128x384, .f32⟩
  | .hbm, ⟨74, _⟩ => ⟨S4x8x128x384, .f32⟩
  | .hbm, ⟨75, _⟩ => ⟨S4x8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_v38 : Ref sig .tc := ⟨.hbm, 75, rfl⟩

abbrev nD : Nat := 1
abbrev τ : Topo := Topo.v7x

variable {F : FTy → Type} [FloatOps F]
-- ==== Proof.MergeSpec.lean ====
module

public import Idealize.ShloMosaic.Lib.Pointwise

/-! The third stage of the layer as scalar formulas over the extended reals: one token's gates, its merged branches and
the layer normalisation of its residual. Both the pipelined kernel and the host reference are read down to these. -/

@[expose] public section

noncomputable section

namespace Cert.Merge

open Idealize.ShloMosaic

/-- The mean of 2048 numbers, as both programs take it: the sum divided by the constant 2048. -/
def mean (y : Fin 2048 → EReal) : EReal := Ideal.div (∑ k, y k) (Ideal.ofBits FTy.f32 0x45000000#32)

/-- Layer normalisation of one token's row `y`, read at channel `l`. -/
def layerNorm (y g b : Fin 2048 → EReal) (l : Fin 2048) : EReal :=
  (y l - mean y) * Ideal.rsqrt (mean (fun k => (y k - mean y) * (y k - mean y)) + Ideal.ofBits FTy.f32 0x3727C5AC#32)
    * g l + b l

/-- A sigmoid gate: of the token's row `x` against one column `w` of the gate weights, with bias `b`. -/
def gate (x w : Fin 2048 → EReal) (b : EReal) : EReal := Ideal.logistic (∑ k, x k * w k + b)

/-- The three gated branch projections of one token, summed, at channel `l`: the branches are the lanes 0 to 1023,
1024 to 1535 and 1536 to 2047 of the mixed row `y`, their gates the columns `l`, `2048 + l` and `4096 + l`. -/
def merged (x y : Fin 2048 → EReal) (W : Fin 2048 → Fin 6144 → EReal) (b : Fin 6144 → EReal)
    (Wb : Fin 2048 → Fin 2048 → EReal) (l : Fin 2048) : EReal :=
  gate x (fun k => W k ⟨l, by omega⟩) (b ⟨l, by omega⟩)
        * ∑ k : Fin 1024, y ⟨k, by omega⟩ * Wb ⟨k, by omega⟩ l
      + gate x (fun k => W k ⟨2048 + l, by omega⟩) (b ⟨2048 + l, by omega⟩)
        * ∑ k : Fin 512, y ⟨1024 + k, by omega⟩ * Wb ⟨1024 + k, by omega⟩ l
    + gate x (fun k => W k ⟨4096 + l, by omega⟩) (b ⟨4096 + l, by omega⟩)
        * ∑ k : Fin 512, y ⟨1536 + k, by omega⟩ * Wb ⟨1536 + k, by omega⟩ l

/-- One token's row after the third stage, at channel `l`. -/
def tokenOut (x y : Fin 2048 → EReal) (W : Fin 2048 → Fin 6144 → EReal) (b : Fin 6144 → EReal)
    (Wb Wo : Fin 2048 → Fin 2048 → EReal) (g c : Fin 2048 → EReal) (l : Fin 2048) : EReal :=
  layerNorm (fun j => Ideal.ofBits FTy.f32 0x3F9837F0#32 * x j + ∑ k, merged x y W b Wb k * Wo k j) g c l

/-- `tokenOut` at a row and a channel of the whole arrays. -/
def stageOut (x : (⟨2, ![32768, 2048]⟩ : Shape).Idx → EReal) (y : (⟨2, ![32768, 2048]⟩ : Shape).Idx → EReal)
    (W : (⟨2, ![2048, 6144]⟩ : Shape).Idx → EReal) (b : (⟨1, ![6144]⟩ : Shape).Idx → EReal)
    (Wb Wo : (⟨2, ![2048, 2048]⟩ : Shape).Idx → EReal) (g c : (⟨1, ![2048]⟩ : Shape).Idx → EReal)
    (r : Fin 32768) (l : Fin 2048) : EReal :=
  tokenOut (fun k => x (ix2 r k)) (fun k => y (ix2 r k)) (fun k j => W (ix2 k j)) (fun j => b (ix1 j))
    (fun k j => Wb (ix2 k j)) (fun k j => Wo (ix2 k j)) (fun k => g (ix1 k)) (fun k => c (ix1 k)) l

end Cert.Merge

end
-- ==== Proof.MergeRef.lean ====
module

public import proofs.«01_k».proof.Proof.MergeSpec
public import proofs.«01_k».proof.Proof.Gen.Reference2Ideal.Run
public import Idealize.ShloMosaic.Lib.Tactic.CleanTypes

/-! The host reference of the third stage, read at an index. -/

@[expose] public section

set_option maxRecDepth 16384

noncomputable section

namespace Cert.Merge

open Cert.Reference2Ideal Cert.Reference2Ideal.Value Idealize.ShloMosaic Idealize.ShloMosaic.TcCoe Idealize.SL.Sem

variable (m : (ℓ : Loc nD τ sig) → Buf (Elt Ideal) ℓ)

set_option maxHeartbeats 2000000 in
/-- The reference's result at row `r`, channel `l`. -/
theorem reference_apply (c : Dev nD) (r : Fin 32768) (l : Fin 2048) :
    res_out0 m c (ix2 r l) = stageOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) r l := by
  unfold res_out0 res_main_v59
  clean_types
  pointwise []
  unfold stageOut tokenOut layerNorm mean merged gate Ideal.logistic
  first | rfl | trace_state

end Cert.Merge

end
-- ==== Proof.MergeKernel.lean ====
module

public import proofs.«01_k».proof.Proof.MergeSpec
public import proofs.«01_k».proof.Proof.Gen.Kernel2Ideal.Value
public import Idealize.ShloMosaic.Lib.Pipeline.ValueKit

/-! The third stage's kernel: what one block of 256 tokens computes, and the whole result array. -/

@[expose] public section

set_option maxRecDepth 16384

noncomputable section

namespace Cert.Merge

open Cert.Kernel2Ideal Cert.Kernel2Ideal.Gen Idealize.ShloMosaic Idealize.ShloMosaic.TcCoe Idealize.SL.Sem

variable (x0 : Vec Ideal S256x2048 .f32) (x1 : Vec Ideal S256x2048 .bf16) (x2 : Vec Ideal S2048x6144 .bf16)
  (x3 : Vec Ideal S1x6144 .f32) (x4 x5 : Vec Ideal S2048x2048 .bf16) (x6 x7 : Vec Ideal S1x2048 .f32)

/-- The merged rows of a block, as the body's payloads compute them. -/
abbrev mergedBlock : FVec Ideal S256x2048 .bf16 :=
  k0_pay14 (k0_pay19 x0 x1 x2 x3 x4 x5 x6 x7) (k0_pay20 x0 x1 x2 x3 x4 x5 x6 x7) (k0_pay21 x0 x1 x2 x3 x4 x5 x6 x7)
    (k0_pay22 x0 x1 x2 x3 x4 x5 x6 x7) (k0_pay23 x0 x1 x2 x3 x4 x5 x6 x7) (View.ld x1 r0_3) (View.ld x4 r0_33)
    (View.ld x2 r0_34) (View.ld x3 r0_35) (View.ld x1 r0_7) (View.ld x4 r0_36) (View.ld x2 r0_37) (View.ld x3 r0_38)
    (View.ld x1 r0_11) (View.ld x4 r0_39)

set_option maxHeartbeats 4000000 in
/-- The merged rows at row `a`, channel `l`: four column groups of 512, each the same formula. -/
theorem mergedBlock_apply (a : Fin 256) (l : Fin 2048) :
    mergedBlock x0 x1 x2 x3 x4 x5 x6 x7 (ix2 a l) = merged (fun k => x0 (ix2 a k)) (fun k => x1 (ix2 a k))
      (fun k j => x2 (ix2 k j)) (fun j => x3 (ix2 0 j)) (fun k j => x4 (ix2 k j)) l := by
  unfold mergedBlock merged gate
  unfold_payloads
  pointwise []
  have hl := l.isLt
  split_ifs
  all_goals first
    | (have e0 : 512 + (l.val - 512) = l.val := by omega
       have e1 : 2560 + (l.val - 512) = 2048 + l.val := by omega
       have e2 : 4608 + (l.val - 512) = 4096 + l.val := by omega
       simp only [e0, e1, e2])
    | (have e0 : 1024 + (l.val - 512 - 512) = l.val := by omega
       have e1 : 3072 + (l.val - 512 - 512) = 2048 + l.val := by omega
       have e2 : 5120 + (l.val - 512 - 512) = 4096 + l.val := by omega
       simp only [e0, e1, e2])
    | (have e0 : 1536 + (l.val - 512 - 512 - 512) = l.val := by omega
       have e1 : 3584 + (l.val - 512 - 512 - 512) = 2048 + l.val := by omega
       have e2 : 5632 + (l.val - 512 - 512 - 512) = 4096 + l.val := by omega
       simp only [e0, e1, e2])
    | rfl

/-- The residual and its normalisation over the lower 128 rows of a block, from any merged rows `M`. -/
theorem lower_apply (M : FVec Ideal S256x2048 .bf16) (a : Fin 128) (l : Fin 2048) :
    k0_pay1 (k0_pay18 M (View.ld x5 r0_40) (View.ld x0 r0_43)) (View.ld x6 r0_42) (View.ld x7 r0_42) (ix2 a l)
      = layerNorm (fun j => Ideal.ofBits FTy.f32 0x3F9837F0#32 * x0 (ix2 ⟨128 + a, by omega⟩ j)
          + ∑ k, M (ix2 ⟨128 + a, by omega⟩ k) * x5 (ix2 k j)) (fun k => x6 (ix2 0 k)) (fun k => x7 (ix2 0 k)) l := by
  unfold layerNorm mean
  pointwise [k0_pay1, k0_pay18]

/-- The same over the upper 128 rows. -/
theorem upper_apply (M : FVec Ideal S256x2048 .bf16) (a : Fin 128) (l : Fin 2048) :
    k0_pay17 (extractStridedSlice S128x2048 ![0, 0] M slices_S256x2048_o0_0_S128x2048) (k0_pay16 (View.ld x5 r0_40))
        (constant S128x2048 .f32 0#32) (View.ld x0 r0_41) (View.ld x6 r0_42) (View.ld x7 r0_42) (ix2 a l)
      = layerNorm (fun j => Ideal.ofBits FTy.f32 0x3F9837F0#32 * x0 (ix2 ⟨a, by omega⟩ j)
          + ∑ k, M (ix2 ⟨a, by omega⟩ k) * x5 (ix2 k j)) (fun k => x6 (ix2 0 k)) (fun k => x7 (ix2 0 k)) l := by
  unfold layerNorm mean
  pointwise [k0_pay17, k0_pay16]

set_option maxHeartbeats 1000000 in
/-- What a point stores, at row `a`, channel `l` of its block. -/
theorem block_apply (a : Fin 256) (l : Fin 2048) :
    out0_8 x0 x1 x2 x3 x4 x5 x6 x7 (ix2 a l) = tokenOut (fun k => x0 (ix2 a k)) (fun k => x1 (ix2 a k))
      (fun k j => x2 (ix2 k j)) (fun j => x3 (ix2 0 j)) (fun k j => x4 (ix2 k j)) (fun k j => x5 (ix2 k j))
      (fun k => x6 (ix2 0 k)) (fun k => x7 (ix2 0 k)) l := by
  unfold out0_8
  canon_tiles x h
  · obtain ⟨b, j, rfl⟩ : ∃ (b : Fin 128) (j : Fin 2048), x = ix2 b j := ⟨x 0, x 1, eq_ix2 x⟩
    have ha : a = ⟨128 + b, Nat.add_lt_add_left b.isLt 128⟩ := Fin.ext h0
    subst ha
    obtain rfl : l = j := Fin.ext h1
    refine (lower_apply x0 x5 x6 x7 (mergedBlock x0 x1 x2 x3 x4 x5 x6 x7) b l).trans ?_
    simp only [mergedBlock_apply]
    rfl
  · obtain ⟨b, j, rfl⟩ : ∃ (b : Fin 128) (j : Fin 2048), x = ix2 b j := ⟨x 0, x 1, eq_ix2 x⟩
    have ha : a = ⟨b, b.isLt.trans (by decide)⟩ := Fin.ext h0
    subst ha
    obtain rfl : l = j := Fin.ext h1
    unfold k0_pay15
    refine (upper_apply x0 x5 x6 x7 (mergedBlock x0 x1 x2 x3 x4 x5 x6 x7) b l).trans ?_
    simp only [mergedBlock_apply]
    rfl

variable (m : (ℓ : Loc nD τ sig) → Buf (Elt Ideal) ℓ)

/-- Where each window stands at point `t`: the token windows at block row `t`, the weights whole. -/
theorem idx : ∀ t : Fin grid0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] := by decide +kernel

/-- The result array after the grid: every row the third stage's formula of the eight arguments. -/
theorem final (c : Dev nD) : (dats m 0 c).arrAt 8 cfg0.N = fun i =>
    stageOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) (i 0) (i 1) := by
  refine (dats m 0 c).arrAt_eq_of_covers 8 _ (by decide +kernel) fun t hf y => ?_
  blk_simp
  rw [after0_8]
  obtain ⟨a, l, rfl⟩ : ∃ (a : Fin 256) (l : Fin 2048), y = ix2 a l := ⟨y 0, y 1, eq_ix2 y⟩
  refine (block_apply (iblk m c 0 t) (iblk m c 1 t) (iblk m c 2 t) (iblk m c 3 t) (iblk m c 4 t) (iblk m c 5 t)
    (iblk m c 6 t) (iblk m c 7 t) a l).trans ?_
  unfold stageOut
  congr 1
  · funext k; blk_ext [iblk, V, idx t]
  · funext k; blk_ext [iblk, V, idx t]
  · funext k j; blk_ext! [iblk, V, idx t]
  · funext j; blk_ext! [iblk, V, idx t]
  · funext k j; blk_ext! [iblk, V, idx t]
  · funext k j; blk_ext! [iblk, V, idx t]
  · funext k; blk_ext! [iblk, V, idx t]
  · funext k; blk_ext! [iblk, V, idx t]
  · apply Fin.ext
    blk_simp [idx t]

end Cert.Merge

end
-- ==== Proof.MergeClaim.lean ====
module

public import proofs.«01_k».proof.Defs
public import proofs.«01_k».proof.Proof.MergeRef
public import proofs.«01_k».proof.Proof.MergeKernel

/-! The value claim of the third stage: the pipelined kernel and the host reference end with the same array. -/

@[expose] public section

noncomputable section

namespace Cert.Merge

open Idealize.ShloMosaic Idealize.SL.Sem

/-- Both programs' results are `stageOut` of arguments that agree. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  rw [final m c]
  funext i
  obtain ⟨h0, h1, h2, h3, h4, h5, h6, h7⟩ := hagree c
  have e := reference_apply m' c (i 0) (i 1)
  rw [h0, h1, h2, h3, h4, h5, h6, h7] at e
  exact (congrArg (Cert.Reference2Ideal.Value.res_out0 m' c) (eq_ix2 i)).trans e

/-- The reference's frame, from its run. -/
theorem reference_frame : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Merge

end
-- ==== Proof.FfnBase.lean ====
module

public import proofs.«01_k».proof.Proof.Gen.Kernel3Ideal.Skeleton
public import proofs.«01_k».proof.Proof.Gen.Kernel3Ideal.Frame
public import Idealize.ShloMosaic.Lib.Pipeline.FrameValue
public import Idealize.ShloMosaic.Lib.Tactic
public import Idealize.ShloMosaic.Lib.VecWindow
public import Idealize.ShloMosaic.Lib.Pointwise

@[expose] public section

set_option maxRecDepth 16384

noncomputable section

namespace Cert.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands the launch does not stage -/

abbrev xArr : Memref sig .tc .hbm S32768x2048 .f32 := Memref.whole main_arg0
abbrev oArr : Memref sig .tc .hbm S32768x2048 .f32 := Memref.whole main_v7
abbrev xBuf : Memref sig .tc .vmem S1024x2048 .f32 := Memref.whole cc0_scratch0
abbrev bBuf : Memref sig .tc .vmem S1024x2048 .bf16 := Memref.whole cc0_scratch1
abbrev aBuf : Memref sig .tc .vmem S1024x2048 .f32 := Memref.whole cc0_scratch2

/-- A memref's buffer on core `c`, and its points-to. -/
abbrev BufOf (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The 1024 rows of an array from row `off 0` on. -/
abbrev rowsOf (M : Memref sig .tc .hbm S32768x2048 .f32) (off : Fin 2 → Nat) (h : ∀ a, off a + S1024x2048.size a ≤ S32768x2048.size a) :
    Memref sig .tc .hbm S1024x2048 .f32 :=
  M.slice (Rect.unit (s := S32768x2048) off S1024x2048.size h) (fun _ => rfl)

/-- The conditions of the body's regions the program does not name. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
abbrev cond4 (i : grid0.Coords) : BitVec 1 :=
  Scalar.cmpi .ne (Scalar.extui (Scalar.cmpi .eq (BitVec.ofNat 32 (i 1).val) 1#32) : BitVec 32) 0#32
abbrev cond6 (i : grid0.Coords) : BitVec 1 :=
  Scalar.cmpi .ne (Scalar.extui (Scalar.andi (Scalar.cmpi .sgt (BitVec.ofNat 32 (i 1).val) 1#32) (Scalar.cmpi .slt (BitVec.ofNat 32 (i 1).val) 5#32)) : BitVec 32) 0#32

abbrev body (i : grid0.Coords) (arg3 : Memref sig .tc .vmem S2048x1024 .bf16) (harg3 : arg3.IsWhole)
    (arg4 : Memref sig .tc .vmem S2048x1024 .bf16) (harg4 : arg4.IsWhole)
    (arg5 : Memref sig .tc .vmem S1024x2048 .bf16) (harg5 : arg5.IsWhole)
    (arg6 : Memref sig .tc .vmem S2048x256 .bf16) (harg6 : arg6.IsWhole)
    (arg7 : Memref sig .tc .vmem S1x2048 .f32) (harg7 : arg7.IsWhole)
    (arg8 : Memref sig .tc .vmem S1x2048 .f32) (harg8 : arg8.IsWhole) : Prog (TpuEff nD τ sig (Elt F) Λ₀ .tc) PUnit :=
  cc0_ffn_ln i xArr (Memref.isWhole_whole _) arg3 harg3 arg4 harg4 arg5 harg5 arg6 harg6 arg7 harg7 arg8 harg8
    oArr (Memref.isWhole_whole _) xBuf (Memref.isWhole_whole _) bBuf (Memref.isWhole_whole _) aBuf (Memref.isWhole_whole _)
    cc0_scratch3 cc0_scratch4

/-- Rows `256 q … 256 q + 255` of a tile. -/
def rows {e : EltTy} (x : Vec F S1024x2048 e) (q : Fin 4) : Vec F S256x2048 e :=
  fun y => x (ix2 ⟨256 * q.val + (y 0).val, by have : (y 0).val < 256 := (y 0).isLt; omega⟩ (y 1))

/-- The 256 columns from `o` on of a weight block. -/
def cols {e : EltTy} (x : Vec F S2048x1024 e) (o : ℕ) (ho : o ≤ 768) : Vec F S2048x256 e :=
  fun y => x (ix2 (y 0) ⟨o + (y 1).val, by have : (y 1).val < 256 := (y 1).isLt; omega⟩)

/-- The first 384 rows of a weight block. -/
def top {e : EltTy} (x : Vec F S1024x2048 e) : Vec F S384x2048 e :=
  fun y => x (ix2 ⟨(y 0).val, by have : (y 0).val < 384 := (y 0).isLt; omega⟩ (y 1))

/-- The tile whose four row blocks are given. -/
def stack4 {e : EltTy} (w0 w1 w2 w3 : Vec F S256x2048 e) : Vec F S1024x2048 e :=
  fun y => (![w0, w1, w2, w3] ⟨(y 0).val / 256, by have : (y 0).val < 1024 := (y 0).isLt; omega⟩)
    (ix2 ⟨(y 0).val % 256, Nat.mod_lt _ (by norm_num)⟩ (y 1))

section Reads

variable {sp : Space} {e : EltTy}

theorem readAt_rows (v : View sig .tc sp S1024x2048 e) (f : v.ty.Contents (Elt F)) (q : Fin 4) {off : Fin 2 → ℕ}
    (inb : ∀ a, off a + S256x2048.size a ≤ S1024x2048.size a) (h0 : off 0 = 256 * q.val) (h1 : off 1 = 0) :
    v.readAt (Elt F) (Rect.unit (s := S1024x2048) off S256x2048.size inb).toLoadRect f = rows (v.read (Elt F) f) q := by
  funext y
  refine congrArg (v.read (Elt F) f) (funext (Fin.forall_fin_two.mpr ⟨Fin.ext ?_, Fin.ext ?_⟩))
  · show off 0 + 1 * (y 0).val = 256 * q.val + (y 0).val; omega
  · show off 1 + 1 * (y 1).val = (y 1).val; omega

theorem readAt_cols (v : View sig .tc sp S2048x1024 e) (f : v.ty.Contents (Elt F)) (o : ℕ) (ho : o ≤ 768) {off : Fin 2 → ℕ}
    (inb : ∀ a, off a + S2048x256.size a ≤ S2048x1024.size a) (h0 : off 0 = 0) (h1 : off 1 = o) :
    v.readAt (Elt F) (Rect.unit (s := S2048x1024) off S2048x256.size inb).toLoadRect f = cols (v.read (Elt F) f) o ho := by
  funext y
  refine congrArg (v.read (Elt F) f) (funext (Fin.forall_fin_two.mpr ⟨Fin.ext ?_, Fin.ext ?_⟩))
  · show off 0 + 1 * (y 0).val = (y 0).val; omega
  · show off 1 + 1 * (y 1).val = o + (y 1).val; omega

theorem readAt_top (v : View sig .tc sp S1024x2048 e) (f : v.ty.Contents (Elt F)) {off : Fin 2 → ℕ}
    (inb : ∀ a, off a + S384x2048.size a ≤ S1024x2048.size a) (h0 : off 0 = 0) (h1 : off 1 = 0) :
    v.readAt (Elt F) (Rect.unit (s := S1024x2048) off S384x2048.size inb).toLoadRect f = top (v.read (Elt F) f) := by
  funext y
  refine congrArg (v.read (Elt F) f) (funext (Fin.forall_fin_two.mpr ⟨Fin.ext ?_, Fin.ext ?_⟩))
  · show off 0 + 1 * (y 0).val = (y 0).val; omega
  · show off 1 + 1 * (y 1).val = (y 1).val; omega

/-- Four stores of 256 rows each leave the tile of the four. -/
theorem read_stack4 (v : View sig .tc sp S1024x2048 e) (f : v.ty.Contents (Elt F)) (w0 w1 w2 w3 : Vec F S256x2048 e)
    (i0 : ∀ a, (![0, 0] : Fin 2 → ℕ) a + S256x2048.size a ≤ S1024x2048.size a)
    (i1 : ∀ a, (![256, 0] : Fin 2 → ℕ) a + S256x2048.size a ≤ S1024x2048.size a)
    (i2 : ∀ a, (![512, 0] : Fin 2 → ℕ) a + S256x2048.size a ≤ S1024x2048.size a)
    (i3 : ∀ a, (![768, 0] : Fin 2 → ℕ) a + S256x2048.size a ≤ S1024x2048.size a) :
    v.read (Elt F) (v.writes (Elt F) f
      [⟨Rect.unit (s := S1024x2048) ![768, 0] S256x2048.size i3, w3⟩, ⟨Rect.unit (s := S1024x2048) ![512, 0] S256x2048.size i2, w2⟩,
        ⟨Rect.unit (s := S1024x2048) ![256, 0] S256x2048.size i1, w1⟩, ⟨Rect.unit (s := S1024x2048) ![0, 0] S256x2048.size i0, w0⟩])
      = stack4 w0 w1 w2 w3 := by
  funext y
  have hy : (y 0).val < 1024 := (y 0).isLt
  have at_ (q : ℕ) (hq : 256 * q ≤ (y 0).val ∧ (y 0).val < 256 * q + 256) :
      (y 0).val / 256 = q ∧ (y 0).val = 256 * q + (y 0).val % 256 := by omega
  let z : S256x2048.Idx := ix2 ⟨(y 0).val % 256, Nat.mod_lt _ (by norm_num)⟩ (y 1)
  have key (q : Fin 4) (hq : 256 * q.val ≤ (y 0).val ∧ (y 0).val < 256 * q.val + 256) :
      stack4 w0 w1 w2 w3 y = (![w0, w1, w2, w3] q) z := by
    have : (⟨(y 0).val / 256, by omega⟩ : Fin 4) = q := Fin.ext (at_ q.val hq).1
    exact congrArg (fun r => (![w0, w1, w2, w3] r) z) this
  by_cases c3 : 768 ≤ (y 0).val
  · rw [key 3 ⟨c3, by omega⟩]
    exact View.read_writes_cons_rows_of_mem (o := 768) v f _ _ _ y z rfl (at_ 3 ⟨c3, by omega⟩).2 rfl
  refine (View.read_writes_cons_rows_of_not_mem (o := 768) (W := 256) v f _ _ _ y rfl rfl (Or.inl (by omega))).trans ?_
  by_cases c2 : 512 ≤ (y 0).val
  · rw [key 2 ⟨c2, by show (y 0).val < 256 * 2 + 256; omega⟩]
    exact View.read_writes_cons_rows_of_mem (o := 512) v f _ _ _ y z rfl (at_ 2 ⟨c2, by omega⟩).2 rfl
  refine (View.read_writes_cons_rows_of_not_mem (o := 512) (W := 256) v f _ _ _ y rfl rfl (Or.inl (by omega))).trans ?_
  by_cases c1 : 256 ≤ (y 0).val
  · rw [key 1 ⟨c1, by show (y 0).val < 256 * 1 + 256; omega⟩]
    exact View.read_writes_cons_rows_of_mem (o := 256) v f _ _ _ y z rfl (at_ 1 ⟨c1, by omega⟩).2 rfl
  refine (View.read_writes_cons_rows_of_not_mem (o := 256) (W := 256) v f _ _ _ y rfl rfl (Or.inl (by omega))).trans ?_
  rw [key 0 ⟨Nat.zero_le _, by show (y 0).val < 256 * 0 + 256; omega⟩]
  exact View.read_writes_cons_rows_of_mem (o := 0) v f _ _ _ y z rfl (at_ 0 ⟨by omega, by omega⟩).2 rfl

end Reads

/-! ## What the steps of a tile leave -/

/-- The tile as the products read it. -/
def tileB (xt : Vec F S1024x2048 .f32) : Vec F S1024x2048 .bf16 :=
  stack4 (k0_pay2 (rows xt 0)) (k0_pay5 (rows xt 1)) (k0_pay9 (rows xt 2)) (k0_pay29 (rows xt 3))

/-- The tile buffer after the first step: twice the scaled tile plus the first chunk's contribution. -/
def tile0 (xt : Vec F S1024x2048 .f32) (wg wu : Vec F S2048x1024 .bf16) (wd : Vec F S1024x2048 .bf16) : Vec F S1024x2048 .f32 :=
  stack4 (k0_pay3 (rows xt 0) wg wu wd) (k0_pay7 (k0_pay4 (rows xt 1)) (k0_pay6 (rows xt 1)) wg wu wd)
    (k0_pay27 (k0_pay10 (rows xt 2)) (k0_pay11 (rows xt 2) wg wu) wd) (k0_pay30 (rows xt 3) wg wu wd)

/-- The accumulator after the last step: the normalised rows. -/
def tile5 (xb : Vec F S1024x2048 .bf16) (a : Vec F S1024x2048 .f32) (wg wu : Vec F S2048x1024 .bf16) (wd : Vec F S1024x2048 .bf16)
    (wt : Vec F S2048x256 .bf16) (g b : Vec F S1x2048 .f32) : Vec F S1024x2048 .f32 :=
  let wg' := cols wg 0 (by norm_num)
  let wu' := cols wu 640 (by norm_num)
  let wd' := top wd
  stack4
    (k0_pay16 (k0_pay12 g) (k0_pay13 b) (k0_pay14 (rows xb 0) wg' wu' wt (rows a 0) wd') (k0_pay15 (rows xb 0) wg' wu' wt (rows a 0) wd'))
    (k0_pay18 (k0_pay17 (rows xb 1) wg' wu' wt (rows a 1) wd') g b)
    (k0_pay22 (k0_pay21 (rows xb 2) (k0_pay19 (rows xb 2) wg') (k0_pay20 (rows xb 2) wu') wt (rows a 2) wd' g b))
    (k0_pay33 (k0_pay23 (rows xb 3) wg' wu' wt (rows a 3) wd') (k0_pay24 g) (k0_pay25 b) (k0_pay26 (rows xb 3) wg' wu' wt (rows a 3) wd'))

/-- The copy of tile `n / 1024` of `x` into the tile buffer is under way: it will leave the tile's contents there, and give
    the rows it reads back. -/
def xFlight (c : Dev nD) (fx : BufOf (F := F) c xArr) (n : ℕ) (xt : Vec F S1024x2048 .f32) : sProp 𝕄 :=
  iprop(∃ (off : Fin 2 → ℕ) (h : ∀ a, off a + S1024x2048.size a ≤ S32768x2048.size a) (f : BufOf (F := F) c xBuf),
    ⌜(off 0 = n ∧ off 1 = 0) ∧ xt = (rowsOf xArr off h).view.read (Elt F) fx ∧ xBuf.view.read (Elt F) f = xt⌝
    ∗ Transfers.Flight (countersEmb (U := Pipeline.UD sig nD τ)) (c : Thread nD τ) (SemLoc.dma 9) default 262144
        iprop(held c xBuf f ∗ xArr.view.loc (c : Thread nD τ) ↦[(rowsOf xArr off h).view.set]{fullShare} fx)
    ∗ xArr.view.loc (c : Thread nD τ) ↦[Finset.univ \ (rowsOf xArr off h).view.set]{fullShare} fx)

/-- `fo'` is `fo` with the tile `a` put at the rows from `n` on. -/
def PutRows (c : Dev nD) (fo : BufOf (F := F) c oArr) (n : ℕ) (a : Vec F S1024x2048 .f32) (fo' : BufOf (F := F) c oArr) : Prop :=
  ∃ (off : Fin 2 → ℕ) (h : ∀ a, off a + S1024x2048.size a ≤ S32768x2048.size a), (off 0 = n ∧ off 1 = 0)
    ∧ fo' = (rowsOf oArr off h).view.write (Elt F) fo a Finset.univ

/-- The copy of the accumulator out is under way: it will leave the output array at `fo`. -/
def oFlight (c : Dev nD) (fo : BufOf (F := F) c oArr) : sProp 𝕄 :=
  iprop(∃ (fa : BufOf (F := F) c aBuf),
    Transfers.Flight (countersEmb (U := Pipeline.UD sig nD τ)) (c : Thread nD τ) (SemLoc.dma 10) default 262144
        iprop(held c oArr fo ∗ aBuf.view.loc (c : Thread nD τ) ↦[aBuf.view.set]{fullShare} fa))

/-- A whole buffer held at contents that read `x`. -/
theorem owns_of_held (c : Dev nD) {sp : Space} (r : Ref sig .tc) {x : r.ty.shape.Idx → Elt F r.ty.elt} (f : BufOf (F := F) c (Memref.whole r))
    (h : (Memref.whole r).view.read (Elt F) f = x) :
    (held c (Memref.whole r) f : sProp 𝕄) ⊢ owns (c : Thread nD τ) (Memref.whole r) fullShare x := by
  unfold owns
  iintro H
  iexists f
  isplitr
  · ipureintro; exact h
  · rw [View.set_whole]; iexact H

variable (c : Dev nD) (i : grid0.Coords) (arg3 : Memref sig .tc .vmem S2048x1024 .bf16) (harg3 : arg3.IsWhole)
    (arg4 : Memref sig .tc .vmem S2048x1024 .bf16) (harg4 : arg4.IsWhole)
    (arg5 : Memref sig .tc .vmem S1024x2048 .bf16) (harg5 : arg5.IsWhole)
    (arg6 : Memref sig .tc .vmem S2048x256 .bf16) (harg6 : arg6.IsWhole)
    (arg7 : Memref sig .tc .vmem S1x2048 .f32) (harg7 : arg7.IsWhole)
    (arg8 : Memref sig .tc .vmem S1x2048 .f32) (harg8 : arg8.IsWhole)
    (wg : Vec F S2048x1024 .bf16) (wu : Vec F S2048x1024 .bf16) (wd : Vec F S1024x2048 .bf16)
    (wt : Vec F S2048x256 .bf16) (g b : Vec F S1x2048 .f32)

end Cert.Ffn

end
-- ==== Proof.FfnRun.lean ====
module

public import proofs.«01_k».proof.Proof.FfnBase
public import proofs.«01_k».proof.Proof.Gen.Kernel3Ideal.Frame
public import Idealize.ShloMosaic.Lib.Pipeline.FrameValue
public import Idealize.ShloMosaic.Lib.Tactic
public import Idealize.ShloMosaic.Lib.VecWindow
public import Idealize.ShloMosaic.Lib.Pointwise

@[expose] public section

set_option maxRecDepth 16384

noncomputable section

namespace Cert.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg3 : Memref sig .tc .vmem S2048x1024 .bf16) (harg3 : arg3.IsWhole)
    (arg4 : Memref sig .tc .vmem S2048x1024 .bf16) (harg4 : arg4.IsWhole)
    (arg5 : Memref sig .tc .vmem S1024x2048 .bf16) (harg5 : arg5.IsWhole)
    (arg6 : Memref sig .tc .vmem S2048x256 .bf16) (harg6 : arg6.IsWhole)
    (arg7 : Memref sig .tc .vmem S1x2048 .f32) (harg7 : arg7.IsWhole)
    (arg8 : Memref sig .tc .vmem S1x2048 .f32) (harg8 : arg8.IsWhole)
    (wg : Vec F S2048x1024 .bf16) (wu : Vec F S2048x1024 .bf16) (wd : Vec F S1024x2048 .bf16)
    (wt : Vec F S2048x256 .bf16) (g b : Vec F S1x2048 .f32)

set_option maxHeartbeats 2148000 in
/-- The first step of the first tile: it copies the tile in and waits for it. -/
theorem run_start (h1 : cond1 i = 1#1) (h2 : k0_cond2 i = 1#1) (h3 : ¬ k0_cond3 i = 1#1) (h4 : ¬ cond4 i = 1#1) (h5 : ¬ k0_cond5 i = 1#1) (h6 : ¬ cond6 i = 1#1) (h7 : ¬ k0_cond7 i = 1#1) (h8 : ¬ k0_cond8 i = 1#1)
    (n : ℕ) (hn : n = 0) (fx : BufOf (F := F) c xArr) (W : Waits sig Unit) (K : PUnit → sProp 𝕄) :
    iprop(owns (c : Thread nD τ) arg3 fullShare wg ∗ owns (c : Thread nD τ) arg4 fullShare wu ∗ owns (c : Thread nD τ) arg5 fullShare wd
        ∗ held c xArr fx ∗ (∃ f, held c xBuf f) ∗ (∃ f, held c bBuf f) ∗ semVal ((c : Thread nD τ), SemLoc.dma 9) 0 ∗ owes (c : Thread nD τ) 0 W
        ∗ (iprop(owns (c : Thread nD τ) arg3 fullShare wg ∗ owns (c : Thread nD τ) arg4 fullShare wu ∗ owns (c : Thread nD τ) arg5 fullShare wd
            ∗ (∃ xt off h, ⌜(off 0 = n ∧ off 1 = 0) ∧ xt = (rowsOf xArr off h).view.read (Elt F) fx⌝ ∗ owns (c : Thread nD τ) xBuf fullShare (tile0 xt wg wu wd) ∗ owns (c : Thread nD τ) bBuf fullShare (tileB xt)) ∗ held c xArr fx ∗ semVal ((c : Thread nD τ), SemLoc.dma 9) 0 ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  simp only [k0_part1_eq_skeleton, k0_part2_eq_skeleton]
  unfold k0_part1_skel k0_part2_skel
  unfold owns
  iintro ⟨⟨%f3, %hf3, H3⟩, ⟨%f4, %hf4, H4⟩, ⟨%f5, %hf5, H5⟩, Hx, ⟨%fX, HX⟩, ⟨%fB, HB⟩, Hs, HW, Hk⟩
  obtain rfl := harg3.eq_unread hf3; obtain rfl := harg4.eq_unread hf4; obtain rfl := harg5.eq_unread hf5
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  obtain ⟨xt, hxt⟩ : ∃ xt, xt = (rowsOf xArr ![0, 0] inb_S32768x2048_S1024x2048_0_0).view.read (Elt F) fx := ⟨_, rfl⟩
  have hfX : xBuf.view.read (Elt F) (xBuf.view.write (Elt F) fX (run_start.sl.dma0 c fx) Finset.univ) = xt := (View.read_write_univ _ _).trans hxt.symm
  have e0 (inb) : xBuf.view.readAt (Elt F) (Rect.unit (s := S1024x2048) ![0, 0] S256x2048.size inb).toLoadRect (xBuf.view.write (Elt F) fX (run_start.sl.dma0 c fx) Finset.univ) = rows xt 0 :=
    (readAt_rows _ _ 0 _ rfl rfl).trans (by rw [hfX])
  have e1 : run_start.sl.v61 c fx fX = rows xt 1 := (readAt_rows _ _ 1 _ rfl rfl).trans (by rw [hfX])
  have e2 : run_start.sl.v85 c fx fX = rows xt 2 := (readAt_rows _ _ 2 _ rfl rfl).trans (by rw [hfX])
  have e3 : run_start.sl.v109 c fx fX = rows xt 3 := (readAt_rows _ _ 3 _ rfl rfl).trans (by rw [hfX])
  isplitl [HX HB]
  · iexists xt, ![0, 0], inb_S32768x2048_S1024x2048_0_0
    isplitr; · ipureintro; exact ⟨⟨hn.symm, rfl⟩, hxt⟩
    isplitl [HX]
    · rw [View.set_whole]; iexists _; isplitr; swap; · iexact HX
      ipureintro
      refine (read_stack4 _ _ _ _ _ _ _ _ _ _).trans ?_
      show stack4 _ _ _ _ = stack4 _ _ _ _
      exact congr (congr (congr (congrArg stack4 (congr (congr (congr (congrArg (k0_pay3 (F := F)) (e0 _)) (Eq.trans (View.readAt_full arg3.view (harg3.unread wg) _) hf3)) (Eq.trans (View.readAt_full arg4.view (harg4.unread wu) _) hf4)) (Eq.trans (View.readAt_full arg5.view (harg5.unread wd) _) hf5))) (congr (congr (congr (congr (congrArg (k0_pay7 (F := F)) (congrArg (k0_pay4 (F := F)) e1)) (congrArg (k0_pay6 (F := F)) e1)) (Eq.trans (View.readAt_full arg3.view (harg3.unread wg) _) hf3)) (Eq.trans (View.readAt_full arg4.view (harg4.unread wu) _) hf4)) (Eq.trans (View.readAt_full arg5.view (harg5.unread wd) _) hf5))) (congr (congr (congrArg (k0_pay27 (F := F)) (congrArg (k0_pay10 (F := F)) e2)) (congr (congr (congrArg (k0_pay11 (F := F)) e2) (Eq.trans (View.readAt_full arg3.view (harg3.unread wg) _) hf3)) (Eq.trans (View.readAt_full arg4.view (harg4.unread wu) _) hf4))) (Eq.trans (View.readAt_full arg5.view (harg5.unread wd) _) hf5))) (congr (congr (congr (congrArg (k0_pay30 (F := F)) e3) (Eq.trans (View.readAt_full arg3.view (harg3.unread wg) _) hf3)) (Eq.trans (View.readAt_full arg4.view (harg4.unread wu) _) hf4)) (Eq.trans (View.readAt_full arg5.view (harg5.unread wd) _) hf5))
    · rw [View.set_whole]; iexists _; isplitr; swap; · iexact HB
      ipureintro
      refine (read_stack4 _ _ _ _ _ _ _ _ _ _).trans ?_
      show stack4 _ _ _ _ = stack4 _ _ _ _
      exact congr (congr (congr (congrArg stack4 (congrArg (k0_pay2 (F := F)) (e0 _))) (congrArg (k0_pay5 (F := F)) e1)) (congrArg (k0_pay9 (F := F)) e2)) (congrArg (k0_pay29 (F := F)) e3)
  isplitl [Hx]; · iexact Hx
  isplitl [Hs]; · iexact Hs
  iexists _; iexact HW

set_option maxHeartbeats 2148000 in
/-- The first step of a later tile: it waits for the tile. -/
theorem run_first (h1 : ¬ cond1 i = 1#1) (h2 : k0_cond2 i = 1#1) (h3 : ¬ k0_cond3 i = 1#1) (h4 : ¬ cond4 i = 1#1) (h5 : ¬ k0_cond5 i = 1#1) (h6 : ¬ cond6 i = 1#1) (h7 : ¬ k0_cond7 i = 1#1) (h8 : ¬ k0_cond8 i = 1#1)
    (n : ℕ) (fx : BufOf (F := F) c xArr) (W : Waits sig Unit) (K : PUnit → sProp 𝕄) :
    iprop(owns (c : Thread nD τ) arg3 fullShare wg ∗ owns (c : Thread nD τ) arg4 fullShare wu ∗ owns (c : Thread nD τ) arg5 fullShare wd
        ∗ (∃ xt, xFlight c fx n xt) ∗ (∃ f, held c bBuf f) ∗ owes (c : Thread nD τ) 0 W
        ∗ (iprop(owns (c : Thread nD τ) arg3 fullShare wg ∗ owns (c : Thread nD τ) arg4 fullShare wu ∗ owns (c : Thread nD τ) arg5 fullShare wd
            ∗ (∃ xt off h, ⌜(off 0 = n ∧ off 1 = 0) ∧ xt = (rowsOf xArr off h).view.read (Elt F) fx⌝ ∗ owns (c : Thread nD τ) xBuf fullShare (tile0 xt wg wu wd) ∗ owns (c : Thread nD τ) bBuf fullShare (tileB xt)) ∗ held c xArr fx ∗ semVal ((c : Thread nD τ), SemLoc.dma 9) 0 ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  simp only [k0_part1_eq_skeleton, k0_part2_eq_skeleton]
  unfold k0_part1_skel k0_part2_skel
  unfold owns
  iintro ⟨⟨%f3, %hf3, H3⟩, ⟨%f4, %hf4, H4⟩, ⟨%f5, %hf5, H5⟩, ⟨%xt, Hs⟩, ⟨%fB, HB⟩, HW, Hk⟩
  obtain rfl := harg3.eq_unread hf3; obtain rfl := harg4.eq_unread hf4; obtain rfl := harg5.eq_unread hf5
  unfold xFlight
  icases Hs with ⟨%off, %hoff, %fX, ⟨%hn, %hxt, %hfX⟩, Hf, Hx⟩
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  have hfX : xBuf.view.read (Elt F) fX = xt := hfX
  have e0 (inb) : xBuf.view.readAt (Elt F) (Rect.unit (s := S1024x2048) ![0, 0] S256x2048.size inb).toLoadRect fX = rows xt 0 :=
    (readAt_rows _ _ 0 _ rfl rfl).trans (by rw [hfX])
  have e1 : run_first.sl.v61 c fX = rows xt 1 := (readAt_rows _ _ 1 _ rfl rfl).trans (by rw [hfX])
  have e2 : run_first.sl.v85 c fX = rows xt 2 := (readAt_rows _ _ 2 _ rfl rfl).trans (by rw [hfX])
  have e3 : run_first.sl.v109 c fX = rows xt 3 := (readAt_rows _ _ 3 _ rfl rfl).trans (by rw [hfX])
  isplitl [Hf_dst HB]
  · iexists xt, off, hoff
    isplitr; · ipureintro; exact ⟨hn, hxt⟩
    isplitl [Hf_dst]
    · rw [View.set_whole]; iexists _; isplitr; swap; · iexact Hf_dst
      ipureintro
      refine (read_stack4 _ _ _ _ _ _ _ _ _ _).trans ?_
      show stack4 _ _ _ _ = stack4 _ _ _ _
      exact congr (congr (congr (congrArg stack4 (congr (congr (congr (congrArg (k0_pay3 (F := F)) (e0 _)) (Eq.trans (View.readAt_full arg3.view (harg3.unread wg) _) hf3)) (Eq.trans (View.readAt_full arg4.view (harg4.unread wu) _) hf4)) (Eq.trans (View.readAt_full arg5.view (harg5.unread wd) _) hf5))) (congr (congr (congr (congr (congrArg (k0_pay7 (F := F)) (congrArg (k0_pay4 (F := F)) e1)) (congrArg (k0_pay6 (F := F)) e1)) (Eq.trans (View.readAt_full arg3.view (harg3.unread wg) _) hf3)) (Eq.trans (View.readAt_full arg4.view (harg4.unread wu) _) hf4)) (Eq.trans (View.readAt_full arg5.view (harg5.unread wd) _) hf5))) (congr (congr (congrArg (k0_pay27 (F := F)) (congrArg (k0_pay10 (F := F)) e2)) (congr (congr (congrArg (k0_pay11 (F := F)) e2) (Eq.trans (View.readAt_full arg3.view (harg3.unread wg) _) hf3)) (Eq.trans (View.readAt_full arg4.view (harg4.unread wu) _) hf4))) (Eq.trans (View.readAt_full arg5.view (harg5.unread wd) _) hf5))) (congr (congr (congr (congrArg (k0_pay30 (F := F)) e3) (Eq.trans (View.readAt_full arg3.view (harg3.unread wg) _) hf3)) (Eq.trans (View.readAt_full arg4.view (harg4.unread wu) _) hf4)) (Eq.trans (View.readAt_full arg5.view (harg5.unread wd) _) hf5))
    · rw [View.set_whole]; iexists _; isplitr; swap; · iexact HB
      ipureintro
      refine (read_stack4 _ _ _ _ _ _ _ _ _ _).trans ?_
      show stack4 _ _ _ _ = stack4 _ _ _ _
      exact congr (congr (congr (congrArg stack4 (congrArg (k0_pay2 (F := F)) (e0 _))) (congrArg (k0_pay5 (F := F)) e1)) (congrArg (k0_pay9 (F := F)) e2)) (congrArg (k0_pay29 (F := F)) e3)
  isplitl [Hx]; · iexact Hx
  isplitl [Hf]; · iexact Hf
  iexists _; iexact HW

set_option maxHeartbeats 2148000 in
/-- The second step of the first tile. -/
theorem run_second (h1 : ¬ cond1 i = 1#1) (h2 : ¬ k0_cond2 i = 1#1) (h3 : ¬ k0_cond3 i = 1#1) (h4 : cond4 i = 1#1) (h5 : ¬ k0_cond5 i = 1#1) (h6 : ¬ cond6 i = 1#1) (h7 : ¬ k0_cond7 i = 1#1) (h8 : ¬ k0_cond8 i = 1#1)
    (x0 : Vec F S1024x2048 .f32) (xb : Vec F S1024x2048 .bf16) (W : Waits sig Unit) (K : PUnit → sProp 𝕄) :
    iprop(owns (c : Thread nD τ) arg3 fullShare wg ∗ owns (c : Thread nD τ) arg4 fullShare wu ∗ owns (c : Thread nD τ) arg5 fullShare wd
        ∗ owns (c : Thread nD τ) xBuf fullShare x0 ∗ owns (c : Thread nD τ) bBuf fullShare xb ∗ (∃ f, held c aBuf f) ∗ owes (c : Thread nD τ) 0 W
        ∗ (iprop(owns (c : Thread nD τ) arg3 fullShare wg ∗ owns (c : Thread nD τ) arg4 fullShare wu ∗ owns (c : Thread nD τ) arg5 fullShare wd
            ∗ owns (c : Thread nD τ) xBuf fullShare x0 ∗ owns (c : Thread nD τ) bBuf fullShare xb ∗ owns (c : Thread nD τ) aBuf fullShare (k0_pay31 x0 xb wg wu wd) ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  unfold owns
  iintro ⟨⟨%f3, %hf3, H3⟩, ⟨%f4, %hf4, H4⟩, ⟨%f5, %hf5, H5⟩, ⟨%fX, %hfX, HX⟩, ⟨%fB, %hfB, HB⟩, ⟨%fA, HA⟩, HW, Hk⟩
  obtain rfl := harg3.eq_unread hf3; obtain rfl := harg4.eq_unread hf4; obtain rfl := harg5.eq_unread hf5
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [HX]; · iexists _; isplitr; · ipureintro; exact hfX
                  iexact HX
  isplitl [HB]; · iexists _; isplitr; · ipureintro; exact hfB
                  iexact HB
  isplitl [HA]
  · rw [View.set_whole]; iexists _; isplitr; swap; · iexact HA
    ipureintro
    exact Eq.trans (View.read_writes_full _ _ _ _ _) (congr (congr (congr (congr (congrArg (k0_pay31 (F := F)) (Eq.trans (View.readAt_full _ _ _) hfX)) (Eq.trans (View.readAt_full _ _ _) hfB)) (Eq.trans (View.readAt_full arg3.view (harg3.unread wg) _) hf3)) (Eq.trans (View.readAt_full arg4.view (harg4.unread wu) _) hf4)) (Eq.trans (View.readAt_full arg5.view (harg5.unread wd) _) hf5))
  iexists _; iexact HW

set_option maxHeartbeats 2148000 in
/-- The second step of a later tile: it waits for the copy out of the tile before. -/
theorem run_second_wait (h1 : ¬ cond1 i = 1#1) (h2 : ¬ k0_cond2 i = 1#1) (h3 : k0_cond3 i = 1#1) (h4 : cond4 i = 1#1) (h5 : ¬ k0_cond5 i = 1#1) (h6 : ¬ cond6 i = 1#1) (h7 : ¬ k0_cond7 i = 1#1) (h8 : ¬ k0_cond8 i = 1#1)
    (fo : BufOf (F := F) c oArr) (x0 : Vec F S1024x2048 .f32) (xb : Vec F S1024x2048 .bf16) (W : Waits sig Unit) (K : PUnit → sProp 𝕄) :
    iprop(owns (c : Thread nD τ) arg3 fullShare wg ∗ owns (c : Thread nD τ) arg4 fullShare wu ∗ owns (c : Thread nD τ) arg5 fullShare wd
        ∗ owns (c : Thread nD τ) xBuf fullShare x0 ∗ owns (c : Thread nD τ) bBuf fullShare xb ∗ oFlight c fo ∗ owes (c : Thread nD τ) 0 W
        ∗ (iprop(owns (c : Thread nD τ) arg3 fullShare wg ∗ owns (c : Thread nD τ) arg4 fullShare wu ∗ owns (c : Thread nD τ) arg5 fullShare wd
            ∗ owns (c : Thread nD τ) xBuf fullShare x0 ∗ owns (c : Thread nD τ) bBuf fullShare xb ∗ owns (c : Thread nD τ) aBuf fullShare (k0_pay31 x0 xb wg wu wd) ∗ held c oArr fo ∗ semVal ((c : Thread nD τ), SemLoc.dma 10) 0 ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  unfold owns
  iintro ⟨⟨%f3, %hf3, H3⟩, ⟨%f4, %hf4, H4⟩, ⟨%f5, %hf5, H5⟩, ⟨%fX, %hfX, HX⟩, ⟨%fB, %hfB, HB⟩, Ho, HW, Hk⟩
  obtain rfl := harg3.eq_unread hf3; obtain rfl := harg4.eq_unread hf4; obtain rfl := harg5.eq_unread hf5
  unfold oFlight
  icases Ho with ⟨%fa, Hf⟩
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [HX]; · iexists _; isplitr; · ipureintro; exact hfX
                  iexact HX
  isplitl [HB]; · iexists _; isplitr; · ipureintro; exact hfB
                  iexact HB
  isplitl [Hf_src]
  · iexists _; isplitr; swap; · iexact Hf_src
    ipureintro
    exact Eq.trans (View.read_writes_full _ _ _ _ _) (congr (congr (congr (congr (congrArg (k0_pay31 (F := F)) (Eq.trans (View.readAt_full _ _ _) hfX)) (Eq.trans (View.readAt_full _ _ _) hfB)) (Eq.trans (View.readAt_full arg3.view (harg3.unread wg) _) hf3)) (Eq.trans (View.readAt_full arg4.view (harg4.unread wu) _) hf4)) (Eq.trans (View.readAt_full arg5.view (harg5.unread wd) _) hf5))
  isplitl [Hf_dst]; · iexact Hf_dst
  isplitl [Hf]; · iexact Hf
  iexists _; iexact HW

set_option maxHeartbeats 2148000 in
/-- A middle step that starts the copy of the next tile. -/
theorem run_issue (h1 : ¬ cond1 i = 1#1) (h2 : ¬ k0_cond2 i = 1#1) (h3 : ¬ k0_cond3 i = 1#1) (h4 : ¬ cond4 i = 1#1) (h5 : k0_cond5 i = 1#1) (h6 : cond6 i = 1#1) (h7 : ¬ k0_cond7 i = 1#1) (h8 : ¬ k0_cond8 i = 1#1)
    (fx : BufOf (F := F) c xArr) (xb : Vec F S1024x2048 .bf16) (a : Vec F S1024x2048 .f32) (W : Waits sig Unit) (K : PUnit → sProp 𝕄) :
    iprop(owns (c : Thread nD τ) arg3 fullShare wg ∗ owns (c : Thread nD τ) arg4 fullShare wu ∗ owns (c : Thread nD τ) arg5 fullShare wd
        ∗ held c xArr fx ∗ (∃ f, held c xBuf f) ∗ owns (c : Thread nD τ) bBuf fullShare xb ∗ owns (c : Thread nD τ) aBuf fullShare a ∗ semVal ((c : Thread nD τ), SemLoc.dma 9) 0 ∗ owes (c : Thread nD τ) 0 W
        ∗ (iprop(owns (c : Thread nD τ) arg3 fullShare wg ∗ owns (c : Thread nD τ) arg4 fullShare wu ∗ owns (c : Thread nD τ) arg5 fullShare wd
            ∗ (∃ xt, xFlight c fx (1024 * (i 0).val + 1024) xt) ∗ owns (c : Thread nD τ) bBuf fullShare xb ∗ owns (c : Thread nD τ) aBuf fullShare (k0_pay32 a xb wg wu wd) ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  unfold owns
  iintro ⟨⟨%f3, %hf3, H3⟩, ⟨%f4, %hf4, H4⟩, ⟨%f5, %hf5, H5⟩, Hx, ⟨%fX, HX⟩, ⟨%fB, %hfB, HB⟩, ⟨%fA, %hfA, HA⟩, Hs, HW, Hk⟩
  obtain rfl := harg3.eq_unread hf3; obtain rfl := harg4.eq_unread hf4; obtain rfl := harg5.eq_unread hf5
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [Hs Hx]
  · unfold xFlight
    iexists _, (k0_off3 i), (k0_off3_inb i h5), (xBuf.view.write (Elt F) fX ((rowsOf xArr (k0_off3 i) (k0_off3_inb i h5)).view.read (Elt F) fx) Finset.univ)
    isplitr
    · ipureintro
      exact ⟨by rw [k0_off3_eq]; exact ⟨rfl, rfl⟩, rfl, View.read_write_univ _ _⟩
    · isplitl [Hs]; · iexact Hs
      iexact Hx
  isplitl [HB]; · iexists _; isplitr; · ipureintro; exact hfB
                  iexact HB
  isplitl [HA]
  · iexists _; isplitr; swap; · iexact HA
    ipureintro
    exact Eq.trans (View.read_writes_full _ _ _ _ _) (congr (congr (congr (congr (congrArg (k0_pay32 (F := F)) (Eq.trans (View.readAt_full _ _ _) hfA)) (Eq.trans (View.readAt_full _ _ _) hfB)) (Eq.trans (View.readAt_full arg3.view (harg3.unread wg) _) hf3)) (Eq.trans (View.readAt_full arg4.view (harg4.unread wu) _) hf4)) (Eq.trans (View.readAt_full arg5.view (harg5.unread wd) _) hf5))
  iexists _; iexact HW

set_option maxHeartbeats 2148000 in
/-- A middle step. -/
theorem run_mid (h1 : ¬ cond1 i = 1#1) (h2 : ¬ k0_cond2 i = 1#1) (h3 : ¬ k0_cond3 i = 1#1) (h4 : ¬ cond4 i = 1#1) (h5 : ¬ k0_cond5 i = 1#1) (h6 : cond6 i = 1#1) (h7 : ¬ k0_cond7 i = 1#1) (h8 : ¬ k0_cond8 i = 1#1)
    (xb : Vec F S1024x2048 .bf16) (a : Vec F S1024x2048 .f32) (W : Waits sig Unit) (K : PUnit → sProp 𝕄) :
    iprop(owns (c : Thread nD τ) arg3 fullShare wg ∗ owns (c : Thread nD τ) arg4 fullShare wu ∗ owns (c : Thread nD τ) arg5 fullShare wd
        ∗ owns (c : Thread nD τ) bBuf fullShare xb ∗ owns (c : Thread nD τ) aBuf fullShare a ∗ owes (c : Thread nD τ) 0 W
        ∗ (iprop(owns (c : Thread nD τ) arg3 fullShare wg ∗ owns (c : Thread nD τ) arg4 fullShare wu ∗ owns (c : Thread nD τ) arg5 fullShare wd
            ∗ owns (c : Thread nD τ) bBuf fullShare xb ∗ owns (c : Thread nD τ) aBuf fullShare (k0_pay32 a xb wg wu wd) ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  unfold owns
  iintro ⟨⟨%f3, %hf3, H3⟩, ⟨%f4, %hf4, H4⟩, ⟨%f5, %hf5, H5⟩, ⟨%fB, %hfB, HB⟩, ⟨%fA, %hfA, HA⟩, HW, Hk⟩
  obtain rfl := harg3.eq_unread hf3; obtain rfl := harg4.eq_unread hf4; obtain rfl := harg5.eq_unread hf5
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [HB]; · iexists _; isplitr; · ipureintro; exact hfB
                  iexact HB
  isplitl [HA]
  · iexists _; isplitr; swap; · iexact HA
    ipureintro
    exact Eq.trans (View.read_writes_full _ _ _ _ _) (congr (congr (congr (congr (congrArg (k0_pay32 (F := F)) (Eq.trans (View.readAt_full _ _ _) hfA)) (Eq.trans (View.readAt_full _ _ _) hfB)) (Eq.trans (View.readAt_full arg3.view (harg3.unread wg) _) hf3)) (Eq.trans (View.readAt_full arg4.view (harg4.unread wu) _) hf4)) (Eq.trans (View.readAt_full arg5.view (harg5.unread wd) _) hf5))
  iexists _; iexact HW

set_option maxHeartbeats 2148000 in
/-- The last step of a tile: the normalised rows go to the accumulator, and from there out. -/
theorem run_last (h1 : ¬ cond1 i = 1#1) (h2 : ¬ k0_cond2 i = 1#1) (h3 : ¬ k0_cond3 i = 1#1) (h4 : ¬ cond4 i = 1#1) (h5 : ¬ k0_cond5 i = 1#1) (h6 : ¬ cond6 i = 1#1) (h7 : k0_cond7 i = 1#1) (h8 : ¬ k0_cond8 i = 1#1)
    (fo : BufOf (F := F) c oArr) (xb : Vec F S1024x2048 .bf16) (a : Vec F S1024x2048 .f32) (W : Waits sig Unit) (K : PUnit → sProp 𝕄) :
    iprop(owns (c : Thread nD τ) arg3 fullShare wg ∗ owns (c : Thread nD τ) arg4 fullShare wu ∗ owns (c : Thread nD τ) arg5 fullShare wd ∗ owns (c : Thread nD τ) arg6 fullShare wt ∗ owns (c : Thread nD τ) arg7 fullShare g ∗ owns (c : Thread nD τ) arg8 fullShare b
        ∗ held c oArr fo ∗ owns (c : Thread nD τ) bBuf fullShare xb ∗ owns (c : Thread nD τ) aBuf fullShare a ∗ semVal ((c : Thread nD τ), SemLoc.dma 10) 0 ∗ owes (c : Thread nD τ) 0 W
        ∗ (iprop(owns (c : Thread nD τ) arg3 fullShare wg ∗ owns (c : Thread nD τ) arg4 fullShare wu ∗ owns (c : Thread nD τ) arg5 fullShare wd ∗ owns (c : Thread nD τ) arg6 fullShare wt ∗ owns (c : Thread nD τ) arg7 fullShare g ∗ owns (c : Thread nD τ) arg8 fullShare b
            ∗ (∃ fo', ⌜PutRows c fo (1024 * (i 0).val) (tile5 xb a wg wu wd wt g b) fo'⌝ ∗ oFlight c fo') ∗ owns (c : Thread nD τ) bBuf fullShare xb ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  simp only [k0_part3_eq_skeleton, k0_part4_eq_skeleton, k0_part5_eq_skeleton, k0_part6_eq_skeleton, k0_part7_eq_skeleton]
  unfold k0_part3_skel k0_part4_skel k0_part5_skel k0_part6_skel k0_part7_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Ho, ⟨%fB, %hfB, HB⟩, ⟨%fA, %hfA, HA⟩, Hs, HW, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [Hs]
  · iexists _
    isplitr; swap; · unfold oFlight; iexists _; iexact Hs
    ipureintro
    refine ⟨k0_off4 i, k0_off4_inb i h7, by rw [k0_off4_eq]; exact ⟨rfl, rfl⟩, ?_⟩
    unfold run_last.sl.Ho_w0
    refine congrArg (fun a => (rowsOf oArr (k0_off4 i) (k0_off4_inb i h7)).view.write (Elt F) fo a Finset.univ) ?_
    refine (read_stack4 _ _ _ _ _ _ _ _ _ _).trans ?_
    show stack4 _ _ _ _ = stack4 _ _ _ _
    refine congr (congr (congr (congrArg stack4 ?_) ?_) ?_) ?_
    · dsimp only; exact (congr (congr (congr (congrArg (k0_pay16 (F := F)) (congrArg (k0_pay12 (F := F)) (Eq.trans (View.readAt_full arg7.view (harg7.unread g) _) hf7))) (congrArg (k0_pay13 (F := F)) (Eq.trans (View.readAt_full arg8.view (harg8.unread b) _) hf8))) (congr (congr (congr (congr (congr (congrArg (k0_pay14 (F := F)) (Eq.trans (readAt_rows _ _ 0 _ rfl rfl) (congrArg (rows · 0) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 0 _ rfl rfl) (congrArg (rows · 0) hfA))) (Eq.trans (readAt_top _ _ _ rfl rfl) (congrArg top hf5)))) (congr (congr (congr (congr (congr (congrArg (k0_pay15 (F := F)) (Eq.trans (readAt_rows _ _ 0 _ rfl rfl) (congrArg (rows · 0) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 0 _ rfl rfl) (congrArg (rows · 0) hfA))) (Eq.trans (readAt_top _ _ _ rfl rfl) (congrArg top hf5))))
    · exact (congr (congr (congrArg (k0_pay18 (F := F)) (congr (congr (congr (congr (congr (congrArg (k0_pay17 (F := F)) (Eq.trans (readAt_rows _ _ 1 _ rfl rfl) (congrArg (rows · 1) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 1 _ rfl rfl) (congrArg (rows · 1) hfA))) (Eq.trans (readAt_top _ _ _ rfl rfl) (congrArg top hf5)))) (Eq.trans (View.readAt_full arg7.view (harg7.unread g) _) hf7)) (Eq.trans (View.readAt_full arg8.view (harg8.unread b) _) hf8))
    · dsimp only; exact (congrArg (k0_pay22 (F := F)) (congr (congr (congr (congr (congr (congr (congr (congrArg (k0_pay21 (F := F)) (Eq.trans (readAt_rows _ _ 2 _ rfl rfl) (congrArg (rows · 2) hfB))) (congr (congrArg (k0_pay19 (F := F)) (Eq.trans (readAt_rows _ _ 2 _ rfl rfl) (congrArg (rows · 2) hfB))) (Eq.trans (readAt_cols _ _ 0 (by norm_num) _ rfl rfl) (congrArg (cols · 0 (by norm_num)) hf3)))) (congr (congrArg (k0_pay20 (F := F)) (Eq.trans (readAt_rows _ _ 2 _ rfl rfl) (congrArg (rows · 2) hfB))) (Eq.trans (readAt_cols _ _ 640 (by norm_num) _ rfl rfl) (congrArg (cols · 640 (by norm_num)) hf4)))) (Eq.trans (View.readAt_full arg6.view (harg6.unread wt) _) hf6)) (Eq.trans (readAt_rows _ _ 2 _ rfl rfl) (congrArg (rows · 2) hfA))) (Eq.trans (readAt_top _ _ _ rfl rfl) (congrArg top hf5))) (Eq.trans (View.readAt_full arg7.view (harg7.unread g) _) hf7)) (Eq.trans (View.readAt_full arg8.view (harg8.unread b) _) hf8)))
    · dsimp only; exact (congr (congr (congr (congrArg (k0_pay33 (F := F)) (congr (congr (congr (congr (congr (congrArg (k0_pay23 (F := F)) (Eq.trans (readAt_rows _ _ 3 _ rfl rfl) (congrArg (rows · 3) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 3 _ rfl rfl) (congrArg (rows · 3) hfA))) (Eq.trans (readAt_top _ _ _ rfl rfl) (congrArg top hf5)))) (congrArg (k0_pay24 (F := F)) (Eq.trans (View.readAt_full arg7.view (harg7.unread g) _) hf7))) (congrArg (k0_pay25 (F := F)) (Eq.trans (View.readAt_full arg8.view (harg8.unread b) _) hf8))) (congr (congr (congr (congr (congr (congrArg (k0_pay26 (F := F)) (Eq.trans (readAt_rows _ _ 3 _ rfl rfl) (congrArg (rows · 3) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 3 _ rfl rfl) (congrArg (rows · 3) hfA))) (Eq.trans (readAt_top _ _ _ rfl rfl) (congrArg top hf5))))
  isplitl [HB]; · iexists _; isplitr; · ipureintro; exact hfB
                  iexact HB
  iexists _; iexact HW

set_option maxHeartbeats 2148000 in
/-- The last step of the last tile: it also waits for its copy out. -/
theorem run_end (h1 : ¬ cond1 i = 1#1) (h2 : ¬ k0_cond2 i = 1#1) (h3 : ¬ k0_cond3 i = 1#1) (h4 : ¬ cond4 i = 1#1) (h5 : ¬ k0_cond5 i = 1#1) (h6 : ¬ cond6 i = 1#1) (h7 : k0_cond7 i = 1#1) (h8 : k0_cond8 i = 1#1)
    (fo : BufOf (F := F) c oArr) (xb : Vec F S1024x2048 .bf16) (a : Vec F S1024x2048 .f32) (W : Waits sig Unit) (K : PUnit → sProp 𝕄) :
    iprop(owns (c : Thread nD τ) arg3 fullShare wg ∗ owns (c : Thread nD τ) arg4 fullShare wu ∗ owns (c : Thread nD τ) arg5 fullShare wd ∗ owns (c : Thread nD τ) arg6 fullShare wt ∗ owns (c : Thread nD τ) arg7 fullShare g ∗ owns (c : Thread nD τ) arg8 fullShare b
        ∗ held c oArr fo ∗ owns (c : Thread nD τ) bBuf fullShare xb ∗ owns (c : Thread nD τ) aBuf fullShare a ∗ semVal ((c : Thread nD τ), SemLoc.dma 10) 0 ∗ owes (c : Thread nD τ) 0 W
        ∗ (iprop(owns (c : Thread nD τ) arg3 fullShare wg ∗ owns (c : Thread nD τ) arg4 fullShare wu ∗ owns (c : Thread nD τ) arg5 fullShare wd ∗ owns (c : Thread nD τ) arg6 fullShare wt ∗ owns (c : Thread nD τ) arg7 fullShare g ∗ owns (c : Thread nD τ) arg8 fullShare b
            ∗ (∃ fo', ⌜PutRows c fo (1024 * (i 0).val) (tile5 xb a wg wu wd wt g b) fo'⌝ ∗ held c oArr fo') ∗ (∃ f, held c aBuf f) ∗ owns (c : Thread nD τ) bBuf fullShare xb ∗ semVal ((c : Thread nD τ), SemLoc.dma 10) 0 ∗ ∃ W', owes (c : Thread nD τ) 0 W') -∗ K ⟨⟩))
      ⊢ wp frame (wpE (defs₀ (F := F)) Variants.none c none) Set.univ
          (body i arg3 harg3 arg4 harg4 arg5 harg5 arg6 harg6 arg7 harg7 arg8 harg8) K := by
  unfold body; rw [cc0_ffn_ln_eq_skeleton]; unfold cc0_ffn_ln_skel
  simp only [k0_part8_eq_skeleton]
  unfold k0_part8_skel
  simp only [k0_part3_eq_skeleton, k0_part4_eq_skeleton, k0_part5_eq_skeleton, k0_part6_eq_skeleton, k0_part7_eq_skeleton]
  unfold k0_part3_skel k0_part4_skel k0_part5_skel k0_part6_skel k0_part7_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Ho, ⟨%fB, %hfB, HB⟩, ⟨%fA, %hfA, HA⟩, Hs, HW, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact h1 | sl_exact h2 | sl_exact h3 | sl_exact h4 | sl_exact h5 | sl_exact h6 | sl_exact h7 | sl_exact h8)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [Ho]
  · iexists _
    isplitr; swap; · iexact Ho
    ipureintro
    refine ⟨k0_off4 i, k0_off4_inb i h7, by rw [k0_off4_eq]; exact ⟨rfl, rfl⟩, ?_⟩
    unfold run_end.sl.Ho_w0
    refine congrArg (fun a => (rowsOf oArr (k0_off4 i) (k0_off4_inb i h7)).view.write (Elt F) fo a Finset.univ) ?_
    refine (read_stack4 _ _ _ _ _ _ _ _ _ _).trans ?_
    show stack4 _ _ _ _ = stack4 _ _ _ _
    refine congr (congr (congr (congrArg stack4 ?_) ?_) ?_) ?_
    · dsimp only; exact (congr (congr (congr (congrArg (k0_pay16 (F := F)) (congrArg (k0_pay12 (F := F)) (Eq.trans (View.readAt_full arg7.view (harg7.unread g) _) hf7))) (congrArg (k0_pay13 (F := F)) (Eq.trans (View.readAt_full arg8.view (harg8.unread b) _) hf8))) (congr (congr (congr (congr (congr (congrArg (k0_pay14 (F := F)) (Eq.trans (readAt_rows _ _ 0 _ rfl rfl) (congrArg (rows · 0) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 0 _ rfl rfl) (congrArg (rows · 0) hfA))) (Eq.trans (readAt_top _ _ _ rfl rfl) (congrArg top hf5)))) (congr (congr (congr (congr (congr (congrArg (k0_pay15 (F := F)) (Eq.trans (readAt_rows _ _ 0 _ rfl rfl) (congrArg (rows · 0) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 0 _ rfl rfl) (congrArg (rows · 0) hfA))) (Eq.trans (readAt_top _ _ _ rfl rfl) (congrArg top hf5))))
    · exact (congr (congr (congrArg (k0_pay18 (F := F)) (congr (congr (congr (congr (congr (congrArg (k0_pay17 (F := F)) (Eq.trans (readAt_rows _ _ 1 _ rfl rfl) (congrArg (rows · 1) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 1 _ rfl rfl) (congrArg (rows · 1) hfA))) (Eq.trans (readAt_top _ _ _ rfl rfl) (congrArg top hf5)))) (Eq.trans (View.readAt_full arg7.view (harg7.unread g) _) hf7)) (Eq.trans (View.readAt_full arg8.view (harg8.unread b) _) hf8))
    · dsimp only; exact (congrArg (k0_pay22 (F := F)) (congr (congr (congr (congr (congr (congr (congr (congrArg (k0_pay21 (F := F)) (Eq.trans (readAt_rows _ _ 2 _ rfl rfl) (congrArg (rows · 2) hfB))) (congr (congrArg (k0_pay19 (F := F)) (Eq.trans (readAt_rows _ _ 2 _ rfl rfl) (congrArg (rows · 2) hfB))) (Eq.trans (readAt_cols _ _ 0 (by norm_num) _ rfl rfl) (congrArg (cols · 0 (by norm_num)) hf3)))) (congr (congrArg (k0_pay20 (F := F)) (Eq.trans (readAt_rows _ _ 2 _ rfl rfl) (congrArg (rows · 2) hfB))) (Eq.trans (readAt_cols _ _ 640 (by norm_num) _ rfl rfl) (congrArg (cols · 640 (by norm_num)) hf4)))) (Eq.trans (View.readAt_full arg6.view (harg6.unread wt) _) hf6)) (Eq.trans (readAt_rows _ _ 2 _ rfl rfl) (congrArg (rows · 2) hfA))) (Eq.trans (readAt_top _ _ _ rfl rfl) (congrArg top hf5))) (Eq.trans (View.readAt_full arg7.view (harg7.unread g) _) hf7)) (Eq.trans (View.readAt_full arg8.view (harg8.unread b) _) hf8)))
    · dsimp only; exact (congr (congr (congr (congrArg (k0_pay33 (F := F)) (congr (congr (congr (congr (congr (congrArg (k0_pay23 (F := F)) (Eq.trans (readAt_rows _ _ 3 _ rfl rfl) (congrArg (rows · 3) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 3 _ rfl rfl) (congrArg (rows · 3) hfA))) (Eq.trans (readAt_top _ _ _ rfl rfl) (congrArg top hf5)))) (congrArg (k0_pay24 (F := F)) (Eq.trans (View.readAt_full arg7.view (harg7.unread g) _) hf7))) (congrArg (k0_pay25 (F := F)) (Eq.trans (View.readAt_full arg8.view (harg8.unread b) _) hf8))) (congr (congr (congr (congr (congr (congrArg (k0_pay26 (F := F)) (Eq.trans (readAt_rows _ _ 3 _ rfl rfl) (congrArg (rows · 3) hfB))) (Eq.trans (readAt_cols _ _ 0 (by norm_num) _ rfl rfl) (congrArg (cols · 0 (by norm_num)) hf3))) (Eq.trans (readAt_cols _ _ 640 (by norm_num) _ rfl rfl) (congrArg (cols · 640 (by norm_num)) hf4))) (Eq.trans (View.readAt_full arg6.view (harg6.unread wt) _) hf6)) (Eq.trans (readAt_rows _ _ 3 _ rfl rfl) (congrArg (rows · 3) hfA))) (Eq.trans (readAt_top _ _ _ rfl rfl) (congrArg top hf5))))
  isplitl [HA]; · iexists _; rw [View.set_whole]; iexact HA
  isplitl [HB]; · iexists _; isplitr; · ipureintro; exact hfB
                  iexact HB
  isplitl [Hs]; · iexact Hs
  iexists _; iexact HW

end Cert.Ffn

end
-- ==== Proof.FfnFrame.lean ====
module

public import proofs.«01_k».proof.Proof.FfnRun

@[expose] public section

set_option maxRecDepth 16384

noncomputable section

namespace Cert.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid: point `t` is step `t % 6` of tile `t / 6` -/

theorem coord0 : ∀ t : Fin cfg0.N, ((grid0.coords t) 0).val = t.val / 6 := by decide +kernel
theorem conds : ∀ t : Fin cfg0.N,
    (cond1 (grid0.coords t) = 1#1 ↔ t.val = 0) ∧ (k0_cond2 (grid0.coords t) = 1#1 ↔ t.val % 6 = 0)
    ∧ (k0_cond3 (grid0.coords t) = 1#1 ↔ t.val % 6 = 1 ∧ t.val ≠ 1) ∧ (cond4 (grid0.coords t) = 1#1 ↔ t.val % 6 = 1)
    ∧ (k0_cond5 (grid0.coords t) = 1#1 ↔ t.val % 6 = 2 ∧ t.val ≠ 188) ∧ (cond6 (grid0.coords t) = 1#1 ↔ t.val % 6 = 2 ∨ t.val % 6 = 3 ∨ t.val % 6 = 4)
    ∧ (k0_cond7 (grid0.coords t) = 1#1 ↔ t.val % 6 = 5) ∧ (k0_cond8 (grid0.coords t) = 1#1 ↔ t.val = 191) := by decide +kernel
theorem loose_iff0 : cfg0.loose 0 = true ∧ cfg0.loose 1 = false ∧ cfg0.loose 2 = true ∧ cfg0.loose 3 = false ∧ cfg0.loose 4 = false ∧ cfg0.loose 5 = false := by decide +kernel
theorem idle0 : ∀ w : Fin 6, ∀ t : Fin cfg0.N, cfg0.idle w (cfg0.grid.coords t) = false := by decide +kernel
theorem xsize2 : ∀ t : Fin cfg0.N, t.val % 6 ≠ 5 → ∀ a, (cfg0.win 2).xsize (cfg0.grid.coords t) a = (cfg0.win 2).size a := by decide +kernel
theorem xsize2' : ∀ t : Fin cfg0.N, 384 ≤ (cfg0.win 2).xsize (cfg0.grid.coords t) 0 ∧ (cfg0.win 2).xsize (cfg0.grid.coords t) 1 = 2048 := by decide +kernel

/-! ## The arrays as the launch finds them -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the steps leave -/

/-- The grid point of number `n` (below 192). -/
def pt (n : ℕ) : Fin cfg0.N := ⟨n % 192, by rw [show cfg0.N = 192 from N_0]; exact Nat.mod_lt _ (by norm_num)⟩

theorem pt_val (t : Fin cfg0.N) : pt t.val = t := Fin.ext (Nat.mod_eq_of_lt (lt_of_lt_of_eq t.isLt N_0))

def dflt2 : (cfg0.win 2).block.Idx → Elt F (cfg0.win 2).elt := fun _ => Classical.choice inferInstance

/-- The weight blocks at a point. -/
def gateAt (c : Dev nD) (t : Fin cfg0.N) : Vec F S2048x1024 .bf16 := X0_0 m c t
def upAt (c : Dev nD) (t : Fin cfg0.N) : Vec F S2048x1024 .bf16 := iblk m c 1 t
def downAt (c : Dev nD) (t : Fin cfg0.N) : Vec F S1024x2048 .bf16 := (cfg0.win 2).fill (cfg0.grid.coords t) dflt2 (iblk m c 2 t)
def tailAt (c : Dev nD) (t : Fin cfg0.N) : Vec F S2048x256 .bf16 := iblk m c 3 t
def scaleAt (c : Dev nD) (t : Fin cfg0.N) : Vec F S1x2048 .f32 := iblk m c 4 t
def shiftAt (c : Dev nD) (t : Fin cfg0.N) : Vec F S1x2048 .f32 := iblk m c 5 t

/-- The two blocks of `w_down` a step may find differ only in rows past the array's end. -/
theorem down_eq (c : Dev nD) (t : Fin cfg0.N) (h : t.val % 6 ≠ 5) (d : (cfg0.win 2).block.Idx → Elt F (cfg0.win 2).elt) :
    ((cfg0.win 2).fill (cfg0.grid.coords t) d (iblk m c 2 t) : Vec F S1024x2048 .bf16) = downAt m c t := by
  unfold downAt
  funext j
  have hm : (cfg0.win 2).moved (cfg0.grid.coords t) j = true :=
    ((cfg0.win 2).moved_iff _ j).mpr fun a => by rw [xsize2 t h a]; exact (j a).isLt
  unfold Pipeline.Window.fill; rw [dif_pos hm, dif_pos hm]

theorem down_top (c : Dev nD) (t : Fin cfg0.N) (d : (cfg0.win 2).block.Idx → Elt F (cfg0.win 2).elt) :
    top ((cfg0.win 2).fill (cfg0.grid.coords t) d (iblk m c 2 t) : Vec F S1024x2048 .bf16) = top (downAt m c t) := by
  unfold downAt top
  funext y
  generalize hj : (ix2 (⟨(y 0).val, _⟩ : Fin 1024) (y 1) : (cfg0.win 2).block.Idx) = j
  have hm : (cfg0.win 2).moved (cfg0.grid.coords t) j = true :=
    ((cfg0.win 2).moved_iff _ j).mpr (by
      subst hj
      refine Fin.forall_fin_two.mpr ⟨?_, ?_⟩
      · have : (y 0).val < 384 := (y 0).isLt
        exact lt_of_lt_of_le this (xsize2' t).1
      · rw [(xsize2' t).2]; exact (y 1).isLt)
  unfold Pipeline.Window.fill; rw [dif_pos hm, dif_pos hm]

/-- Rows `1024 i … 1024 i + 1023` of an array of 32768 rows (`i < 32`). -/
def tileOf (f : S32768x2048.Idx → Elt F .f32) (i : ℕ) : Vec F S1024x2048 .f32 :=
  fun y => f (ix2 ⟨(1024 * i + (y 0).val) % 32768, Nat.mod_lt _ (by norm_num)⟩ (y 1))

/-- The array with tile `i` replaced by `a`. -/
def putTile (f : S32768x2048.Idx → Elt F .f32) (i : ℕ) (a : Vec F S1024x2048 .f32) : S32768x2048.Idx → Elt F .f32 :=
  fun z => if (z 0).val / 1024 = i then a (ix2 ⟨(z 0).val % 1024, Nat.mod_lt _ (by norm_num)⟩ (z 1)) else f z

theorem tileOf_eq (c : Dev nD) (fx : BufOf (F := F) c xArr) (i : ℕ) (hi : i < 32) (off : Fin 2 → ℕ) (h)
    (h0 : off 0 = 1024 * i) (h1 : off 1 = 0) : (rowsOf xArr off h).view.read (Elt F) fx = tileOf fx i := by
  funext y
  have hy : (y 0).val < 1024 := (y 0).isLt
  refine congrArg (fx : S32768x2048.Idx → Elt F .f32) (funext (Fin.forall_fin_two.mpr ⟨Fin.ext ?_, Fin.ext ?_⟩))
  · show off 0 + 1 * (y 0).val = (1024 * i + (y 0).val) % 32768; omega
  · show off 1 + 1 * (y 1).val = (y 1).val; omega

theorem putTile_eq (c : Dev nD) (fo fo' : BufOf (F := F) c oArr) (i : ℕ) (hi : i < 32) (a : Vec F S1024x2048 .f32)
    (h : PutRows c fo (1024 * i) a fo') : fo' = putTile fo i a := by
  obtain ⟨off, hoff, ⟨h0, h1⟩, rfl⟩ := h
  funext z
  have hz : (z 0).val < 32768 := (z 0).isLt
  unfold putTile
  by_cases hc : (z 0).val / 1024 = i
  · rw [if_pos hc]
    generalize hy : (ix2 (⟨(z 0).val % 1024, Nat.mod_lt _ (by norm_num)⟩ : Fin 1024) (z 1) : S1024x2048.Idx) = y
    have : (rowsOf oArr off hoff).view.emb y = z := by
      subst hy
      refine funext (Fin.forall_fin_two.mpr ⟨Fin.ext ?_, Fin.ext ?_⟩)
      · show off 0 + 1 * ((z 0).val % 1024) = (z 0).val; omega
      · show off 1 + 1 * (z 1).val = (z 1).val; omega
    rw [← this]
    exact View.write_emb_of_mem _ _ (Finset.mem_univ y)
  · rw [if_neg hc]
    refine View.write_of_not_mem _ _ _ fun hm => hc ?_
    obtain ⟨y, -, hy⟩ := Finset.mem_map.mp hm
    have hy0 : (y 0).val < 1024 := (y 0).isLt
    have : off 0 + 1 * (y 0).val = (z 0).val := congrArg Fin.val (congrFun hy 0)
    omega

/-- Tile `i` of the input. -/
def xt (c : Dev nD) (i : ℕ) : Vec F S1024x2048 .f32 := tileOf (V m c main_arg0) i
/-- The accumulated rows of tile `i` after step `k`. -/
def accAt (c : Dev nD) (i : ℕ) : ℕ → Vec F S1024x2048 .f32
  | 0 => tile0 (xt m c i) (gateAt m c (pt (6 * i))) (upAt m c (pt (6 * i))) (downAt m c (pt (6 * i)))
  | 1 => k0_pay31 (accAt c i 0) (tileB (xt m c i)) (gateAt m c (pt (6 * i + 1))) (upAt m c (pt (6 * i + 1))) (downAt m c (pt (6 * i + 1)))
  | k + 2 => k0_pay32 (accAt c i (k + 1)) (tileB (xt m c i)) (gateAt m c (pt (6 * i + (k + 2)))) (upAt m c (pt (6 * i + (k + 2)))) (downAt m c (pt (6 * i + (k + 2))))
/-- The result's tile `i`. -/
def resAt (c : Dev nD) (i : ℕ) : Vec F S1024x2048 .f32 :=
  let t := pt (6 * i + 5)
  tile5 (tileB (xt m c i)) (accAt m c i 4) (gateAt m c t) (upAt m c t) (downAt m c t) (tailAt m c t) (scaleAt m c t) (shiftAt m c t)
/-- The result array after `i` tiles. -/
def outAt (c : Dev nD) : ℕ → BufOf (F := F) c oArr
  | 0 => V m c main_v7
  | i + 1 => putTile (outAt c i) i (resAt m c i)

/-! ## The state between steps -/

def xIdle (c : Dev nD) : sProp 𝕄 :=
  iprop(held c xArr (V m c main_arg0) ∗ (∃ f, held c xBuf f) ∗ semVal ((c : Thread nD τ), SemLoc.dma 9) 0)
/-- The input's side when tile `i` comes next. -/
def xState (c : Dev nD) (i : ℕ) : sProp 𝕄 :=
  if i = 0 ∨ i = 32 then xIdle m c else iprop(∃ xt, xFlight c (V m c main_arg0) (1024 * i) xt)
/-- The result's side after `i` tiles. -/
def oState (c : Dev nD) (i : ℕ) : sProp 𝕄 :=
  if i = 0 ∨ i = 32 then iprop(held c oArr (outAt m c i) ∗ (∃ f, held c aBuf f) ∗ semVal ((c : Thread nD τ), SemLoc.dma 10) 0)
  else oFlight c (outAt m c i)
def bState (c : Dev nD) (i : ℕ) : sProp 𝕄 := owns (c : Thread nD τ) bBuf fullShare (tileB (xt m c i))
/-- The state before step `k` of tile `i`. -/
def State (c : Dev nD) (i : ℕ) : ℕ → sProp 𝕄
  | 0 => iprop(xState m c i ∗ (∃ f, held c bBuf f) ∗ oState m c i)
  | 1 => iprop((held c xArr (V m c main_arg0) ∗ owns (c : Thread nD τ) xBuf fullShare (accAt m c i 0) ∗ semVal ((c : Thread nD τ), SemLoc.dma 9) 0)
      ∗ bState m c i ∗ oState m c i)
  | 2 => iprop(xIdle m c ∗ bState m c i
      ∗ (owns (c : Thread nD τ) aBuf fullShare (accAt m c i 1) ∗ held c oArr (outAt m c i) ∗ semVal ((c : Thread nD τ), SemLoc.dma 10) 0))
  | k + 3 => iprop(xState m c (i + 1) ∗ bState m c i
      ∗ (owns (c : Thread nD τ) aBuf fullShare (accAt m c i (k + 2)) ∗ held c oArr (outAt m c i) ∗ semVal ((c : Thread nD τ), SemLoc.dma 10) 0))

/-- The proof data of the launch. -/
def dats (_ : Fin 1) (c : Dev nD) : Dat τ (Elt F) Unit ℕ (Pipeline.UD sig nD τ) ℕ cfg0 c where
  A w := V m c (Pipeline.arrRef spec0 w)
  after w t := match w with
    | ⟨0, _⟩ => X0_0 m c t
    | ⟨1, _⟩ => iblk m c 1 t
    | ⟨2, _⟩ => (cfg0.win 2).fill (cfg0.grid.coords t) dflt2 (iblk m c 2 t)
    | ⟨3, _⟩ => iblk m c 3 t
    | ⟨4, _⟩ => iblk m c 4 t
    | ⟨5, _⟩ => iblk m c 5 t
  Φ p := iprop(State m c (p.val / 6) (p.val % 6) ∗ ∃ r, prngReg c r)
  q w := Pipeline.shareOf spec0 w
  owed _ := 0

theorem A_eq (c : Dev nD) (w : Fin cfg0.W) : (dats m 0 c).A w = V m c (Pipeline.arrRef spec0 w) := by
  dsimp only [dats]

end Cert.Ffn

end
-- ==== Proof.FfnStep.lean ====
module

public import proofs.«01_k».proof.Proof.FfnFrame

@[expose] public section

set_option maxRecDepth 16384

noncomputable section

namespace Cert.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Windows -/

theorem before_0 (c : Dev nD) (t : Fin cfg0.N) (d) : (dats m 0 c).before 0 t d = X0_0 m c t :=
  ((dats m 0 c).before_in_eq_fetched 0 rfl (fun _ => rfl)
      (fun t t' h => funext fun a => congrArg (fun n => Pipeline.Clip.of n ((cfg0.win 0).size a) (S2048x11008.size a)) (congrFun h a))
      (fun t => by
        show (cfg0.win 0).cut (cfg0.grid.coords t) (X0_0 m c t) = _
        unfold X0_0; rw [Pipeline.Window.cut_fill]; rfl) t d).trans
    (by unfold Dat.fetched X0_0; rw [fill0_0 t d dflt0_0]; rfl)
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem before_2 (c : Dev nD) (t : Fin cfg0.N) (d) :
    (dats m 0 c).before 2 t d = (cfg0.win 2).fill (cfg0.grid.coords t) d (iblk m c 2 t) := by
  unfold Dat.before
  rw [if_pos (fetch0_2 t)]
  rfl

/-- The six windows' buffers at a step, the third holding `wd`. -/
def ins (c : Dev nD) (t : Fin cfg0.N) (wd : Vec F S1024x2048 .bf16) : sProp 𝕄 :=
  iprop(owns (c : Thread nD τ) (st0_0 t) fullShare (gateAt m c t) ∗ owns (c : Thread nD τ) (st0_1 t) fullShare (upAt m c t)
    ∗ owns (c : Thread nD τ) (st0_2 t) fullShare wd ∗ owns (c : Thread nD τ) (st0_3 t) fullShare (tailAt m c t)
    ∗ owns (c : Thread nD τ) (st0_4 t) fullShare (scaleAt m c t) ∗ owns (c : Thread nD τ) (st0_5 t) fullShare (shiftAt m c t))

/-- The body at a point, on the windows' buffers. -/
abbrev bodyP (t : Fin cfg0.N) : Prog (TpuEff nD τ sig (Elt F) Λ₀ .tc) PUnit :=
  body (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))

theorem bufB_some (c : Dev nD) {x : Vec F S1024x2048 .bf16} :
    (owns (c : Thread nD τ) bBuf fullShare x : sProp 𝕄) ⊢ iprop(∃ f, held c bBuf f) := by
  unfold owns
  iintro ⟨%f, -, H⟩
  iexists f
  rw [View.set_whole]; iexact H
theorem bufX_some (c : Dev nD) {x : Vec F S1024x2048 .f32} :
    (owns (c : Thread nD τ) xBuf fullShare x : sProp 𝕄) ⊢ iprop(∃ f, held c xBuf f) := by
  unfold owns
  iintro ⟨%f, -, H⟩
  iexists f
  rw [View.set_whole]; iexact H

theorem tile5_congr (xb : Vec F S1024x2048 .bf16) (a : Vec F S1024x2048 .f32) (wg wu : Vec F S2048x1024 .bf16) (wd wd' : Vec F S1024x2048 .bf16)
    (wt : Vec F S2048x256 .bf16) (g b : Vec F S1x2048 .f32) (h : top wd = top wd') : tile5 xb a wg wu wd wt g b = tile5 xb a wg wu wd' wt g b := by
  unfold tile5
  rw [h]

theorem State_0 (c : Dev nD) (i : ℕ) : State m c i 0 = iprop(xState m c i ∗ (∃ f, held c bBuf f) ∗ oState m c i) := rfl
theorem State_1 (c : Dev nD) (i : ℕ) : State m c i 1 = iprop((held c xArr (V m c main_arg0) ∗ owns (c : Thread nD τ) xBuf fullShare (accAt m c i 0) ∗ semVal ((c : Thread nD τ), SemLoc.dma 9) 0)
      ∗ bState m c i ∗ oState m c i) := rfl
theorem State_2 (c : Dev nD) (i : ℕ) : State m c i 2 = iprop(xIdle m c ∗ bState m c i
      ∗ (owns (c : Thread nD τ) aBuf fullShare (accAt m c i (0 + 1)) ∗ held c oArr (outAt m c i) ∗ semVal ((c : Thread nD τ), SemLoc.dma 10) 0)) := rfl
theorem State_3 (c : Dev nD) (i k : ℕ) : State m c i (k + 3) = iprop(xState m c (i + 1) ∗ bState m c i
      ∗ (owns (c : Thread nD τ) aBuf fullShare (accAt m c i (k + 2)) ∗ held c oArr (outAt m c i) ∗ semVal ((c : Thread nD τ), SemLoc.dma 10) 0)) := rfl

theorem pt_of (t : Fin cfg0.N) (n : ℕ) (h : t.val = n) : pt n = t := by subst h; exact pt_val t

/-! ## The steps -/
theorem step_start (c : Dev nD) (t : Fin cfg0.N) (ht : t.val = 0) (wd : Vec F S1024x2048 .bf16) (hwd : wd = downAt m c t) (W : Waits sig Unit) :
    iprop(State m c 0 0 ∗ owes (c : Thread nD τ) 0 W ∗ ins m c t wd)
      ⊢ wp frame (wpE (defs₀ (F := F)) Variants.none c none) Set.univ (bodyP t)
          (fun _ => iprop(State m c 0 1 ∗ (∃ W', owes (c : Thread nD τ) 0 W') ∗ ins m c t wd)) := by
  subst hwd
  have hp : pt (6 * 0) = t := pt_of t _ (by omega)
  have hc0 := coord0 t
  have ha : accAt m c 0 0 = tile0 (xt m c 0) (gateAt m c t) (upAt m c t) (downAt m c t) := by rw [← hp]; rfl
  rw [State_0, State_1]
  unfold bState xState
  rw [if_pos (Or.inl rfl), ha]
  unfold xIdle
  unfold ins
  iintro ⟨⟨⟨HV, HX, HS⟩, HB, HO⟩, HW, H0, H1, H2, H3, H4, H5⟩
  iapply (run_start c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.mpr (by omega)) ((conds t).2.1.mpr (by omega)) ((conds t).2.2.1.not.mpr (by omega)) ((conds t).2.2.2.1.not.mpr (by omega)) ((conds t).2.2.2.2.1.not.mpr (by omega)) ((conds t).2.2.2.2.2.1.not.mpr (by omega)) ((conds t).2.2.2.2.2.2.1.not.mpr (by omega)) ((conds t).2.2.2.2.2.2.2.not.mpr (by omega)) (1024 * 0) rfl (V m c main_arg0) W _)
  isplitl [H0]; · iexact H0
  isplitl [H1]; · iexact H1
  isplitl [H2]; · iexact H2
  isplitl [HV]; · iexact HV
  isplitl [HX]; · iexact HX
  isplitl [HB]; · iexact HB
  isplitl [HS]; · iexact HS
  isplitl [HW]; · iexact HW
  iintro ⟨H0, H1, H2, ⟨%xt', %off, %h, %hxt, HX, HB⟩, HV, HS, HW⟩
  obtain ⟨⟨ho0, ho1⟩, hxt⟩ := hxt
  have hx : xt' = xt m c 0 := hxt.trans (tileOf_eq c (V m c main_arg0) 0 (by omega) off h ho0 ho1)
  subst hx
  isplitl [HV HX HS HB HO]
  · isplitl [HV HX HS]
    · isplitl [HV]; · iexact HV
      isplitl [HX]; · iexact HX
      iexact HS
    isplitl [HB]; · iexact HB
    iexact HO
  isplitl [HW]; · iexact HW
  isplitl [H0]; · iexact H0
  isplitl [H1]; · iexact H1
  isplitl [H2]; · iexact H2
  isplitl [H3]; · iexact H3
  isplitl [H4]; · iexact H4
  iexact H5

theorem step_first (c : Dev nD) (t : Fin cfg0.N) (i : ℕ) (ht : t.val = 6 * i) (hi : i ≠ 0) (hi' : i < 32) (wd : Vec F S1024x2048 .bf16) (hwd : wd = downAt m c t) (W : Waits sig Unit) :
    iprop(State m c i 0 ∗ owes (c : Thread nD τ) 0 W ∗ ins m c t wd)
      ⊢ wp frame (wpE (defs₀ (F := F)) Variants.none c none) Set.univ (bodyP t)
          (fun _ => iprop(State m c i 1 ∗ (∃ W', owes (c : Thread nD τ) 0 W') ∗ ins m c t wd)) := by
  subst hwd
  have hp : pt (6 * i) = t := pt_of t _ (by omega)
  have hc0 := coord0 t
  have ha : accAt m c i 0 = tile0 (xt m c i) (gateAt m c t) (upAt m c t) (downAt m c t) := by rw [← hp]; rfl
  rw [State_0, State_1]
  unfold bState xState
  rw [if_neg (by omega), ha]
  unfold ins
  iintro ⟨⟨HX, HB, HO⟩, HW, H0, H1, H2, H3, H4, H5⟩
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.mpr (by omega)) ((conds t).2.2.1.not.mpr (by omega)) ((conds t).2.2.2.1.not.mpr (by omega)) ((conds t).2.2.2.2.1.not.mpr (by omega)) ((conds t).2.2.2.2.2.1.not.mpr (by omega)) ((conds t).2.2.2.2.2.2.1.not.mpr (by omega)) ((conds t).2.2.2.2.2.2.2.not.mpr (by omega)) (1024 * i) (V m c main_arg0) W _)
  isplitl [H0]; · iexact H0
  isplitl [H1]; · iexact H1
  isplitl [H2]; · iexact H2
  isplitl [HX]; · iexact HX
  isplitl [HB]; · iexact HB
  isplitl [HW]; · iexact HW
  iintro ⟨H0, H1, H2, ⟨%xt', %off, %h, %hxt, HX, HB⟩, HV, HS, HW⟩
  obtain ⟨⟨ho0, ho1⟩, hxt⟩ := hxt
  have hx : xt' = xt m c i := hxt.trans (tileOf_eq c (V m c main_arg0) i (by omega) off h ho0 ho1)
  subst hx
  isplitl [HV HX HS HB HO]
  · isplitl [HV HX HS]
    · isplitl [HV]; · iexact HV
      isplitl [HX]; · iexact HX
      iexact HS
    isplitl [HB]; · iexact HB
    iexact HO
  isplitl [HW]; · iexact HW
  isplitl [H0]; · iexact H0
  isplitl [H1]; · iexact H1
  isplitl [H2]; · iexact H2
  isplitl [H3]; · iexact H3
  isplitl [H4]; · iexact H4
  iexact H5

theorem step_second (c : Dev nD) (t : Fin cfg0.N) (ht : t.val = 1) (wd : Vec F S1024x2048 .bf16) (hwd : wd = downAt m c t) (W : Waits sig Unit) :
    iprop(State m c 0 1 ∗ owes (c : Thread nD τ) 0 W ∗ ins m c t wd)
      ⊢ wp frame (wpE (defs₀ (F := F)) Variants.none c none) Set.univ (bodyP t)
          (fun _ => iprop(State m c 0 2 ∗ (∃ W', owes (c : Thread nD τ) 0 W') ∗ ins m c t wd)) := by
  subst hwd
  have hp : pt (6 * 0 + 1) = t := pt_of t _ (by omega)
  have hc0 := coord0 t
  have ha : accAt m c 0 (0 + 1) = k0_pay31 (accAt m c 0 0) (tileB (xt m c 0)) (gateAt m c t) (upAt m c t) (downAt m c t) := by rw [← hp]; rfl
  rw [State_1, State_2]
  unfold bState oState
  rw [if_pos (Or.inl rfl), ha]
  unfold ins
  iintro ⟨⟨⟨HV, HX, HS⟩, HB, ⟨HO, HA, HS'⟩⟩, HW, H0, H1, H2, H3, H4, H5⟩
  iapply (run_second c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.not.mpr (by omega)) ((conds t).2.2.1.not.mpr (by omega)) ((conds t).2.2.2.1.mpr (by omega)) ((conds t).2.2.2.2.1.not.mpr (by omega)) ((conds t).2.2.2.2.2.1.not.mpr (by omega)) ((conds t).2.2.2.2.2.2.1.not.mpr (by omega)) ((conds t).2.2.2.2.2.2.2.not.mpr (by omega)) (accAt m c 0 0) (tileB (xt m c 0)) W _)
  isplitl [H0]; · iexact H0
  isplitl [H1]; · iexact H1
  isplitl [H2]; · iexact H2
  isplitl [HX]; · iexact HX
  isplitl [HB]; · iexact HB
  isplitl [HA]; · iexact HA
  isplitl [HW]; · iexact HW
  iintro ⟨H0, H1, H2, HX, HB, HA, HW⟩
  unfold xIdle
  isplitl [HV HX HS HB HA HO HS']
  · isplitl [HV HX HS]
    · isplitl [HV]; · iexact HV
      isplitl [HX]; · iapply (bufX_some c); iexact HX
      iexact HS
    isplitl [HB]; · iexact HB
    isplitl [HA]; · iexact HA
    isplitl [HO]; · iexact HO
    iexact HS'
  isplitl [HW]; · iexact HW
  isplitl [H0]; · iexact H0
  isplitl [H1]; · iexact H1
  isplitl [H2]; · iexact H2
  isplitl [H3]; · iexact H3
  isplitl [H4]; · iexact H4
  iexact H5

theorem step_second_wait (c : Dev nD) (t : Fin cfg0.N) (i : ℕ) (ht : t.val = 6 * i + 1) (hi : i ≠ 0) (hi' : i < 32) (wd : Vec F S1024x2048 .bf16) (hwd : wd = downAt m c t) (W : Waits sig Unit) :
    iprop(State m c i 1 ∗ owes (c : Thread nD τ) 0 W ∗ ins m c t wd)
      ⊢ wp frame (wpE (defs₀ (F := F)) Variants.none c none) Set.univ (bodyP t)
          (fun _ => iprop(State m c i 2 ∗ (∃ W', owes (c : Thread nD τ) 0 W') ∗ ins m c t wd)) := by
  subst hwd
  have hp : pt (6 * i + 1) = t := pt_of t _ (by omega)
  have hc0 := coord0 t
  have ha : accAt m c i (0 + 1) = k0_pay31 (accAt m c i 0) (tileB (xt m c i)) (gateAt m c t) (upAt m c t) (downAt m c t) := by rw [← hp]; rfl
  rw [State_1, State_2]
  unfold bState oState
  rw [if_neg (by omega), ha]
  unfold ins
  iintro ⟨⟨⟨HV, HX, HS⟩, HB, HO⟩, HW, H0, H1, H2, H3, H4, H5⟩
  iapply (run_second_wait c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.not.mpr (by omega)) ((conds t).2.2.1.mpr (by omega)) ((conds t).2.2.2.1.mpr (by omega)) ((conds t).2.2.2.2.1.not.mpr (by omega)) ((conds t).2.2.2.2.2.1.not.mpr (by omega)) ((conds t).2.2.2.2.2.2.1.not.mpr (by omega)) ((conds t).2.2.2.2.2.2.2.not.mpr (by omega)) (outAt m c i) (accAt m c i 0) (tileB (xt m c i)) W _)
  isplitl [H0]; · iexact H0
  isplitl [H1]; · iexact H1
  isplitl [H2]; · iexact H2
  isplitl [HX]; · iexact HX
  isplitl [HB]; · iexact HB
  isplitl [HO]; · iexact HO
  isplitl [HW]; · iexact HW
  iintro ⟨H0, H1, H2, HX, HB, HA, HO, HS', HW⟩
  unfold xIdle
  isplitl [HV HX HS HB HA HO HS']
  · isplitl [HV HX HS]
    · isplitl [HV]; · iexact HV
      isplitl [HX]; · iapply (bufX_some c); iexact HX
      iexact HS
    isplitl [HB]; · iexact HB
    isplitl [HA]; · iexact HA
    isplitl [HO]; · iexact HO
    iexact HS'
  isplitl [HW]; · iexact HW
  isplitl [H0]; · iexact H0
  isplitl [H1]; · iexact H1
  isplitl [H2]; · iexact H2
  isplitl [H3]; · iexact H3
  isplitl [H4]; · iexact H4
  iexact H5

theorem step_issue (c : Dev nD) (t : Fin cfg0.N) (i : ℕ) (ht : t.val = 6 * i + 2) (hi' : i < 31) (wd : Vec F S1024x2048 .bf16) (hwd : wd = downAt m c t) (W : Waits sig Unit) :
    iprop(State m c i 2 ∗ owes (c : Thread nD τ) 0 W ∗ ins m c t wd)
      ⊢ wp frame (wpE (defs₀ (F := F)) Variants.none c none) Set.univ (bodyP t)
          (fun _ => iprop(State m c i (0 + 3) ∗ (∃ W', owes (c : Thread nD τ) 0 W') ∗ ins m c t wd)) := by
  subst hwd
  have hp : pt (6 * i + (0 + 2)) = t := pt_of t _ (by omega)
  have hc0 := coord0 t
  have ha : accAt m c i (0 + 2) = k0_pay32 (accAt m c i (0 + 1)) (tileB (xt m c i)) (gateAt m c t) (upAt m c t) (downAt m c t) := by rw [← hp]; rfl
  have hn : 1024 * (i + 1) = 1024 * ((grid0.coords t) 0).val + 1024 := by omega
  rw [State_2, State_3]
  unfold bState xState xIdle
  rw [if_neg (by omega), ha, hn]
  unfold ins
  iintro ⟨⟨⟨HV, HX, HS⟩, HB, ⟨HA, HO, HS'⟩⟩, HW, H0, H1, H2, H3, H4, H5⟩
  iapply (run_issue c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.not.mpr (by omega)) ((conds t).2.2.1.not.mpr (by omega)) ((conds t).2.2.2.1.not.mpr (by omega)) ((conds t).2.2.2.2.1.mpr (by omega)) ((conds t).2.2.2.2.2.1.mpr (by omega)) ((conds t).2.2.2.2.2.2.1.not.mpr (by omega)) ((conds t).2.2.2.2.2.2.2.not.mpr (by omega)) (V m c main_arg0) (tileB (xt m c i)) (accAt m c i (0 + 1)) W _)
  isplitl [H0]; · iexact H0
  isplitl [H1]; · iexact H1
  isplitl [H2]; · iexact H2
  isplitl [HV]; · iexact HV
  isplitl [HX]; · iexact HX
  isplitl [HB]; · iexact HB
  isplitl [HA]; · iexact HA
  isplitl [HS]; · iexact HS
  isplitl [HW]; · iexact HW
  iintro ⟨H0, H1, H2, HX, HB, HA, HW⟩
  isplitl [HX HB HA HO HS']
  · isplitl [HX]; · iexact HX
    isplitl [HB]; · iexact HB
    isplitl [HA]; · iexact HA
    isplitl [HO]; · iexact HO
    iexact HS'
  isplitl [HW]; · iexact HW
  isplitl [H0]; · iexact H0
  isplitl [H1]; · iexact H1
  isplitl [H2]; · iexact H2
  isplitl [H3]; · iexact H3
  isplitl [H4]; · iexact H4
  iexact H5

theorem step_last_issue (c : Dev nD) (t : Fin cfg0.N) (ht : t.val = 188) (wd : Vec F S1024x2048 .bf16) (hwd : wd = downAt m c t) (W : Waits sig Unit) :
    iprop(State m c 31 2 ∗ owes (c : Thread nD τ) 0 W ∗ ins m c t wd)
      ⊢ wp frame (wpE (defs₀ (F := F)) Variants.none c none) Set.univ (bodyP t)
          (fun _ => iprop(State m c 31 (0 + 3) ∗ (∃ W', owes (c : Thread nD τ) 0 W') ∗ ins m c t wd)) := by
  subst hwd
  have hp : pt (6 * 31 + (0 + 2)) = t := pt_of t _ (by omega)
  have hc0 := coord0 t
  have ha : accAt m c 31 (0 + 2) = k0_pay32 (accAt m c 31 (0 + 1)) (tileB (xt m c 31)) (gateAt m c t) (upAt m c t) (downAt m c t) := by rw [← hp]; rfl
  rw [State_2, State_3]
  unfold bState xState
  rw [if_pos (by omega), ha]
  unfold ins
  iintro ⟨⟨HX, HB, ⟨HA, HO, HS'⟩⟩, HW, H0, H1, H2, H3, H4, H5⟩
  iapply (run_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.not.mpr (by omega)) ((conds t).2.2.1.not.mpr (by omega)) ((conds t).2.2.2.1.not.mpr (by omega)) ((conds t).2.2.2.2.1.not.mpr (by omega)) ((conds t).2.2.2.2.2.1.mpr (by omega)) ((conds t).2.2.2.2.2.2.1.not.mpr (by omega)) ((conds t).2.2.2.2.2.2.2.not.mpr (by omega)) (tileB (xt m c 31)) (accAt m c 31 (0 + 1)) W _)
  isplitl [H0]; · iexact H0
  isplitl [H1]; · iexact H1
  isplitl [H2]; · iexact H2
  isplitl [HB]; · iexact HB
  isplitl [HA]; · iexact HA
  isplitl [HW]; · iexact HW
  iintro ⟨H0, H1, H2, HB, HA, HW⟩
  isplitl [HX HB HA HO HS']
  · isplitl [HX]; · iexact HX
    isplitl [HB]; · iexact HB
    isplitl [HA]; · iexact HA
    isplitl [HO]; · iexact HO
    iexact HS'
  isplitl [HW]; · iexact HW
  isplitl [H0]; · iexact H0
  isplitl [H1]; · iexact H1
  isplitl [H2]; · iexact H2
  isplitl [H3]; · iexact H3
  isplitl [H4]; · iexact H4
  iexact H5

theorem step_mid (c : Dev nD) (t : Fin cfg0.N) (i k : ℕ) (ht : t.val = 6 * i + (k + 3)) (hi' : i < 32) (hk : k < 2) (wd : Vec F S1024x2048 .bf16) (hwd : wd = downAt m c t) (W : Waits sig Unit) :
    iprop(State m c i (k + 3) ∗ owes (c : Thread nD τ) 0 W ∗ ins m c t wd)
      ⊢ wp frame (wpE (defs₀ (F := F)) Variants.none c none) Set.univ (bodyP t)
          (fun _ => iprop(State m c i (k + 1 + 3) ∗ (∃ W', owes (c : Thread nD τ) 0 W') ∗ ins m c t wd)) := by
  subst hwd
  have hp : pt (6 * i + (k + 1 + 2)) = t := pt_of t _ (by omega)
  have hc0 := coord0 t
  have ha : accAt m c i (k + 1 + 2) = k0_pay32 (accAt m c i (k + 1 + 1)) (tileB (xt m c i)) (gateAt m c t) (upAt m c t) (downAt m c t) := by rw [← hp]; rfl
  rw [State_3, State_3]
  unfold bState
  rw [ha]
  unfold ins
  iintro ⟨⟨HX, HB, ⟨HA, HO, HS'⟩⟩, HW, H0, H1, H2, H3, H4, H5⟩
  iapply (run_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) (downAt m c t) ((conds t).1.not.mpr (by omega)) ((conds t).2.1.not.mpr (by omega)) ((conds t).2.2.1.not.mpr (by omega)) ((conds t).2.2.2.1.not.mpr (by omega)) ((conds t).2.2.2.2.1.not.mpr (by omega)) ((conds t).2.2.2.2.2.1.mpr (by omega)) ((conds t).2.2.2.2.2.2.1.not.mpr (by omega)) ((conds t).2.2.2.2.2.2.2.not.mpr (by omega)) (tileB (xt m c i)) (accAt m c i (k + 1 + 1)) W _)
  isplitl [H0]; · iexact H0
  isplitl [H1]; · iexact H1
  isplitl [H2]; · iexact H2
  isplitl [HB]; · iexact HB
  isplitl [HA]; · iexact HA
  isplitl [HW]; · iexact HW
  iintro ⟨H0, H1, H2, HB, HA, HW⟩
  isplitl [HX HB HA HO HS']
  · isplitl [HX]; · iexact HX
    isplitl [HB]; · iexact HB
    isplitl [HA]; · iexact HA
    isplitl [HO]; · iexact HO
    iexact HS'
  isplitl [HW]; · iexact HW
  isplitl [H0]; · iexact H0
  isplitl [H1]; · iexact H1
  isplitl [H2]; · iexact H2
  isplitl [H3]; · iexact H3
  isplitl [H4]; · iexact H4
  iexact H5

theorem step_result (c : Dev nD) (t : Fin cfg0.N) (i : ℕ) (ht : t.val = 6 * i + 5) (hi' : i < 31) (wd : Vec F S1024x2048 .bf16) (hwd : top wd = top (downAt m c t)) (W : Waits sig Unit) :
    iprop(State m c i (2 + 3) ∗ owes (c : Thread nD τ) 0 W ∗ ins m c t wd)
      ⊢ wp frame (wpE (defs₀ (F := F)) Variants.none c none) Set.univ (bodyP t)
          (fun _ => iprop(State m c (i + 1) 0 ∗ (∃ W', owes (c : Thread nD τ) 0 W') ∗ ins m c t wd)) := by
  have hp : pt (6 * i + 5) = t := pt_of t _ (by omega)
  have hc0 := coord0 t
  have ha : resAt m c i = tile5 (tileB (xt m c i)) (accAt m c i (2 + 2)) (gateAt m c t) (upAt m c t) wd (tailAt m c t) (scaleAt m c t) (shiftAt m c t) := by
    rw [tile5_congr _ _ _ _ _ _ _ _ _ hwd, ← hp]; rfl
  rw [State_3, State_0]
  unfold bState oState
  rw [if_neg (by omega : ¬ (i + 1 = 0 ∨ i + 1 = 32))]
  unfold ins
  iintro ⟨⟨HX, HB, ⟨HA, HO, HS'⟩⟩, HW, H0, H1, H2, H3, H4, H5⟩
  iapply (run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) wd (tailAt m c t) (scaleAt m c t) (shiftAt m c t) ((conds t).1.not.mpr (by omega)) ((conds t).2.1.not.mpr (by omega)) ((conds t).2.2.1.not.mpr (by omega)) ((conds t).2.2.2.1.not.mpr (by omega)) ((conds t).2.2.2.2.1.not.mpr (by omega)) ((conds t).2.2.2.2.2.1.not.mpr (by omega)) ((conds t).2.2.2.2.2.2.1.mpr (by omega)) ((conds t).2.2.2.2.2.2.2.not.mpr (by omega)) (outAt m c i) (tileB (xt m c i)) (accAt m c i (2 + 2)) W _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HB]; · iexact HB
  isplitl [HA]; · iexact HA
  isplitl [HS']; · iexact HS'
  isplitl [HW]; · iexact HW
  iintro ⟨H0, H1, H2, H3, H4, H5, ⟨%fo', %hput, HO⟩, HB, HW⟩
  have ho : fo' = outAt m c (i + 1) := by
    refine (putTile_eq c (outAt m c i) fo' i (by omega) _ (by rw [ha]; rw [show 1024 * i = 1024 * ((grid0.coords t) 0).val from by omega]; exact hput)).trans rfl
  subst ho
  isplitl [HX HB HO]
  · isplitl [HX]; · iexact HX
    isplitl [HB]; · iapply (bufB_some c); iexact HB
    iexact HO
  isplitl [HW]; · iexact HW
  isplitl [H0]; · iexact H0
  isplitl [H1]; · iexact H1
  isplitl [H2]; · iexact H2
  isplitl [H3]; · iexact H3
  isplitl [H4]; · iexact H4
  iexact H5

theorem step_end (c : Dev nD) (t : Fin cfg0.N) (ht : t.val = 191) (wd : Vec F S1024x2048 .bf16) (hwd : top wd = top (downAt m c t)) (W : Waits sig Unit) :
    iprop(State m c 31 (2 + 3) ∗ owes (c : Thread nD τ) 0 W ∗ ins m c t wd)
      ⊢ wp frame (wpE (defs₀ (F := F)) Variants.none c none) Set.univ (bodyP t)
          (fun _ => iprop(State m c 32 0 ∗ (∃ W', owes (c : Thread nD τ) 0 W') ∗ ins m c t wd)) := by
  have hp : pt (6 * 31 + 5) = t := pt_of t _ (by omega)
  have hc0 := coord0 t
  have ha : resAt m c 31 = tile5 (tileB (xt m c 31)) (accAt m c 31 (2 + 2)) (gateAt m c t) (upAt m c t) wd (tailAt m c t) (scaleAt m c t) (shiftAt m c t) := by
    rw [tile5_congr _ _ _ _ _ _ _ _ _ hwd, ← hp]; rfl
  rw [State_3, State_0]
  unfold bState oState
  rw [if_pos (by omega : (32 = 0 ∨ 32 = 32))]
  unfold ins
  iintro ⟨⟨HX, HB, ⟨HA, HO, HS'⟩⟩, HW, H0, H1, H2, H3, H4, H5⟩
  iapply (run_end c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (gateAt m c t) (upAt m c t) wd (tailAt m c t) (scaleAt m c t) (shiftAt m c t) ((conds t).1.not.mpr (by omega)) ((conds t).2.1.not.mpr (by omega)) ((conds t).2.2.1.not.mpr (by omega)) ((conds t).2.2.2.1.not.mpr (by omega)) ((conds t).2.2.2.2.1.not.mpr (by omega)) ((conds t).2.2.2.2.2.1.not.mpr (by omega)) ((conds t).2.2.2.2.2.2.1.mpr (by omega)) ((conds t).2.2.2.2.2.2.2.mpr (by omega)) (outAt m c 31) (tileB (xt m c 31)) (accAt m c 31 (2 + 2)) W _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HB]; · iexact HB
  isplitl [HA]; · iexact HA
  isplitl [HS']; · iexact HS'
  isplitl [HW]; · iexact HW
  iintro ⟨H0, H1, H2, H3, H4, H5, ⟨%fo', %hput, HO⟩, HA, HB, HS', HW⟩
  have ho : fo' = outAt m c (31 + 1) := by
    refine (putTile_eq c (outAt m c 31) fo' 31 (by omega) _ (by rw [ha]; rw [show 1024 * 31 = 1024 * ((grid0.coords t) 0).val from by omega]; exact hput)).trans rfl
  subst ho
  isplitl [HX HB HO HA HS']
  · isplitl [HX]; · iexact HX
    isplitl [HB]; · iapply (bufB_some c); iexact HB
    isplitl [HO]; · iexact HO
    isplitl [HA]; · iexact HA
    iexact HS'
  isplitl [HW]; · iexact HW
  isplitl [H0]; · iexact H0
  isplitl [H1]; · iexact H1
  isplitl [H2]; · iexact H2
  isplitl [H3]; · iexact H3
  isplitl [H4]; · iexact H4
  iexact H5

theorem step (c : Dev nD) (t : Fin cfg0.N) (d : (cfg0.win 2).block.Idx → Elt F (cfg0.win 2).elt) (W : Waits sig Unit) :
    iprop(State m c (t.val / 6) (t.val % 6) ∗ owes (c : Thread nD τ) 0 W ∗ ins m c t ((cfg0.win 2).fill (cfg0.grid.coords t) d (iblk m c 2 t)))
      ⊢ wp frame (wpE (defs₀ (F := F)) Variants.none c none) Set.univ (bodyP t)
          (fun _ => iprop(State m c ((t.val + 1) / 6) ((t.val + 1) % 6) ∗ (∃ W', owes (c : Thread nD τ) 0 W')
            ∗ ins m c t ((cfg0.win 2).fill (cfg0.grid.coords t) d (iblk m c 2 t)))) := by
  have hN : t.val < 192 := lt_of_lt_of_eq t.isLt N_0
  obtain ⟨i, k, ht, hk⟩ : ∃ i k, t.val = 6 * i + k ∧ k < 6 := ⟨t.val / 6, t.val % 6, by omega, by omega⟩
  have hi : i < 32 := by omega
  have e1 : t.val / 6 = i := by omega
  have e2 : t.val % 6 = k := by omega
  rw [e1, e2]
  by_cases h5 : k = 5
  · have hd := down_top m c t d
    have e3 : (t.val + 1) / 6 = i + 1 := by omega
    have e4 : (t.val + 1) % 6 = 0 := by omega
    rw [e3, e4]
    subst h5
    by_cases h31 : i = 31
    · subst h31; exact step_end m c t ht _ hd W
    · exact step_result m c t i ht (by omega) _ hd W
  · have hd := down_eq m c t (by omega) d
    have e3 : (t.val + 1) / 6 = i := by omega
    have e4 : (t.val + 1) % 6 = k + 1 := by omega
    rw [e3, e4]
    obtain rfl | rfl | rfl | ⟨k', rfl, hk'⟩ : k = 0 ∨ k = 1 ∨ k = 2 ∨ ∃ k', k = k' + 3 ∧ k' < 2 :=
      if h : k < 3 then by omega else .inr (.inr (.inr ⟨k - 3, by omega, by omega⟩))
    · by_cases h0 : i = 0
      · subst h0; exact step_start m c t ht _ hd W
      · exact step_first m c t i ht h0 hi _ hd W
    · by_cases h0 : i = 0
      · subst h0; exact step_second m c t ht _ hd W
      · exact step_second_wait m c t i ht h0 hi _ hd W
    · by_cases h31 : i = 31
      · subst h31; exact step_last_issue m c t ht _ hd W
      · exact step_issue m c t i ht (by omega) _ hd W
    · exact step_mid m c t i k' ht hi hk' _ hd W

/-! ## The body's obligation -/

theorem Phi_castSucc (c : Dev nD) (t : Fin cfg0.N) :
    (dats m 0 c).Φ t.castSucc = iprop(State m c (t.val / 6) (t.val % 6) ∗ ∃ r, prngReg c r) := rfl
theorem Phi_succ (c : Dev nD) (t : Fin cfg0.N) :
    (dats m 0 c).Φ t.succ = iprop(State m c ((t.val + 1) / 6) ((t.val + 1) % 6) ∗ ∃ r, prngReg c r) := rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem after0_fill (c : Dev nD) (t : Fin cfg0.N) (d) :
    (cfg0.win 0).fill (cfg0.grid.coords t) d ((cfg0.win 0).cut (cfg0.grid.coords t) ((dats m 0 c).after 0 t)) = gateAt m c t := by
  show (cfg0.win 0).fill (cfg0.grid.coords t) d ((cfg0.win 0).cut (cfg0.grid.coords t) (X0_0 m c t)) = X0_0 m c t
  unfold X0_0; rw [Pipeline.Window.cut_fill]; exact fill0_0 t _ _ _
theorem after2_fill (c : Dev nD) (t : Fin cfg0.N) (d) :
    (cfg0.win 2).fill (cfg0.grid.coords t) d ((cfg0.win 2).cut (cfg0.grid.coords t) ((dats m 0 c).after 2 t))
      = (cfg0.win 2).fill (cfg0.grid.coords t) d (iblk m c 2 t) := by
  show (cfg0.win 2).fill (cfg0.grid.coords t) d ((cfg0.win 2).cut (cfg0.grid.coords t) ((cfg0.win 2).fill (cfg0.grid.coords t) dflt2 (iblk m c 2 t))) = _
  rw [Pipeline.Window.cut_fill]

theorem own_0 (c : Dev nD) (t : Fin cfg0.N) : (owns (c : Thread nD τ) (st0_0 t) fullShare (gateAt m c t) : sProp 𝕄)
    ⊢ iprop(∃ d, owns (c : Thread nD τ) (st0_0 t) fullShare ((cfg0.win 0).fill (cfg0.grid.coords t) d ((cfg0.win 0).cut (cfg0.grid.coords t) ((dats m 0 c).after 0 t)))) := by
  refine .trans ?_ (exists_intro (dflt0_0 (F := F)))
  rw [after0_fill]
theorem own_2 (c : Dev nD) (t : Fin cfg0.N) (d : (cfg0.win 2).block.Idx → Elt F (cfg0.win 2).elt) :
    (owns (c : Thread nD τ) (st0_2 t) fullShare ((cfg0.win 2).fill (cfg0.grid.coords t) d (iblk m c 2 t)) : sProp 𝕄)
    ⊢ iprop(∃ d, owns (c : Thread nD τ) (st0_2 t) fullShare ((cfg0.win 2).fill (cfg0.grid.coords t) d ((cfg0.win 2).cut (cfg0.grid.coords t) ((dats m 0 c).after 2 t)))) := by
  refine .trans ?_ (exists_intro d)
  rw [after2_fill]

theorem post_of_step (c : Dev nD) (t : Fin cfg0.N) (d : (cfg0.win 2).block.Idx → Elt F (cfg0.win 2).elt) :
    iprop((State m c ((t.val + 1) / 6) ((t.val + 1) % 6) ∗ (∃ W', owes (c : Thread nD τ) 0 W')
        ∗ ins m c t ((cfg0.win 2).fill (cfg0.grid.coords t) d (iblk m c 2 t))) ∗ ∃ r, prngReg c r) ⊢ bodyPost m c t := by
  unfold bodyPost
  rw [Phi_succ]
  unfold Dat.owesAt Pipeline.owesWithin ins
  rw [show (dats m 0 c).owed t.succ = 0 from rfl]
  iintro ⟨⟨HS, ⟨%W', HW'⟩, H0, H1, H2, H3, H4, H5⟩, Hg⟩
  isplitl [HS Hg]
  · isplitl [HS]; · iexact HS
    iexact Hg
  isplitl [HW']
  · iexists W'; isplitr; · ipureintro; exact fun _ _ => Or.inl trivial
    iexact HW'
  isplitl [H0]; · iapply (own_0 m c t); iexact H0
  isplitl [H1]; · iexact H1
  isplitl [H2]; · iapply (own_2 m c t d); iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyP t) (fun _ => bodyPost m c t) := by
  unfold bodyPre
  rw [Phi_castSucc]
  unfold Dat.owesAt Pipeline.owesWithin
  rw [show (dats m 0 c).owed t.castSucc = 0 from rfl]
  simp only [before_0, before_1, before_2, before_3, before_4, before_5]
  iintro ⟨⟨HS, Hg⟩, ⟨%W, -, HW⟩, ⟨%d0, H0⟩, ⟨%d1, H1⟩, ⟨%d2, H2⟩, ⟨%d3, H3⟩, ⟨%d4, H4⟩, ⟨%d5, H5⟩⟩
  iapply (Sem.wp_mono _ _ _ (fun _ => post_of_step m c t d2))
  iapply (Sem.wp_frame_r _ _ _)
  isplitr [Hg]; swap; · iexact Hg
  iapply (step m c t d2 W)
  isplitl [HS]; · iexact HS
  isplitl [HW]; · iexact HW
  unfold ins
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyP t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact sound_body m c t

/-! ## The run -/

abbrev osem0 : Fin 2 → SemLoc sig := fun j => (![SemLoc.dma 9, SemLoc.dma 10] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The array the body reads by its own transfers, and the one it writes by them. -/
def H0 : Finset (Ref sig .tc) := {main_arg0}
def R0 : Finset (Ref sig .tc) := {main_v7}
theorem H0_sub : H0 ⊆ Pipeline.restRefs sig spec0 := by decide
theorem R0_sub : R0 ⊆ Pipeline.restRefs sig spec0 \ H0 := by decide
theorem mem_R0 : main_v7 ∈ R0 := by decide
theorem hbm0_eq (c : Dev nD) (V' : (b : Ref sig .tc) → Buf (Elt F) ((c.tc : Thread nD τ).loc b)) :
    (bigSep H0 (fun b => ((c : Thread nD τ).loc b) ↦{fullShare} V' b) : sProp 𝕄) = held c xArr (V' main_arg0) := by
  rw [BI.bigSep_eq_bigSepL_of_eq [main_arg0] (by decide) (by decide)]; rfl

/-- What the result array holds at the end; the other arrays are as the launch finds them. -/
def G (c : Dev nD) (b : Ref sig .tc) : Buf (Elt F) ((c.tc : Thread nD τ).loc b) :=
  if h : b = main_v7 then h ▸ outAt m c 32 else V m c b
theorem G_result (c : Dev nD) : G m c main_v7 = outAt m c 32 := by
  unfold G; rw [dif_pos rfl]

theorem PhiDRG0_eq (V' G' : (c : Dev nD) → (b : Ref sig .tc) → Buf (Elt F) ((c.tc : Thread nD τ).loc b)) (c : Dev nD) :
    (Pipeline.ΦDRG osem0 spec0 H0 R0 V' G' c : sProp 𝕄)
      = iprop(((∃ f, held c xBuf f) ∗ (∃ f, held c bBuf f) ∗ (∃ f, held c aBuf f)) ∗ (∃ r, prngReg c r)
        ∗ (semVal ((c : Thread nD τ), SemLoc.dma 9) 0 ∗ semVal ((c : Thread nD τ), SemLoc.dma 10) 0)
        ∗ held c xArr (V' c main_arg0) ∗ held c oArr (G' c main_v7)) := by
  rw [Pipeline.ΦDRG_eq, scopedRest0_eq, ownSems00_eq, hbm0_eq, show R0 = {main_v7} from rfl, Pipeline.routed_singleton]
  try rfl

theorem Phi_in (c : Dev nD) : Pipeline.ΦDRG osem0 spec0 H0 R0 (V m) (V m) c ⊢ (dats m 0 c).Φ 0 := by
  rw [PhiDRG0_eq, show (dats m 0 c).Φ 0 = iprop(State m c 0 0 ∗ ∃ r, prngReg c r) from rfl, State_0]
  unfold xState oState
  rw [if_pos (Or.inl rfl), if_pos (Or.inl rfl)]
  unfold xIdle
  iintro ⟨⟨HX, HB, HA⟩, Hg, ⟨HS, HS'⟩, HV, HO⟩
  isplitr [Hg]; swap; · iexact Hg
  isplitl [HV HX HS]
  · isplitl [HV]; · iexact HV
    isplitl [HX]; · iexact HX
    iexact HS
  isplitl [HB]; · iexact HB
  isplitl [HO]; · iexact HO
  isplitl [HA]; · iexact HA
  iexact HS'

theorem last_eq (c : Dev nD) : (dats m 0 c).Φ (Fin.last cfg0.N) = iprop(State m c 32 0 ∗ ∃ r, prngReg c r) := by
  show iprop(State m c (cfg0.N / 6) (cfg0.N % 6) ∗ ∃ r, prngReg c r) = _
  rw [show cfg0.N = 192 from N_0]

theorem Phi_out (c : Dev nD) : (dats m 0 c).Φ (Fin.last cfg0.N) ⊢ Pipeline.ΦDRG osem0 spec0 H0 R0 (V m) (G m) c := by
  rw [PhiDRG0_eq, last_eq, State_0, G_result]
  unfold xState oState
  rw [if_pos (Or.inr rfl), if_pos (Or.inr rfl)]
  unfold xIdle
  iintro ⟨⟨⟨HV, HX, HS⟩, HB, HO, HA, HS'⟩, Hg⟩
  isplitl [HX HB HA]
  · isplitl [HX]; · iexact HX
    isplitl [HB]; · iexact HB
    iexact HA
  isplitl [Hg]; · iexact Hg
  isplitl [HS HS']
  · isplitl [HS]; · iexact HS
    iexact HS'
  isplitl [HV]; · iexact HV
  iexact HO

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => body_obligation m c) (hq := fun _ _ _ => rfl)
    (howed := fun _ _ => rfl) (V := V m) (hmain := hmain m Variants.none) (hA := A_eq m) (G := G m)
    (hin := fun c => Phi_in m c) (hout := fun c => Phi_out m c)

/-- Run from any memory, the program ends with its arguments as they were and its result in `main_v7`. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (∀ c : Dev nD, r.2.mem ((c.tc : Thread nD τ).loc main_v7) = outAt m c 32)
      ∧ r.2.sem = fun _ => 0) :=
  (θ_run defs _ _).mono (fun _ h => ⟨fun c =>
      ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩,
      fun c => (h.1.2 c main_v7 mem_R0).trans (G_result m c), h.2⟩) (run_main m ρ)

end Cert.Ffn

end
-- ==== Proof.FfnBits.lean ====
module

public import proofs.«01_k».proof.Proof.FfnStep
public import proofs.«01_k».proof.Kernel3
public import proofs.«01_k».proof.Proof.Gen.Kernel3

@[expose] public section

set_option maxRecDepth 16384

noncomputable section

namespace Cert.FfnBits

open Idealize.ShloMosaic Idealize.ShloMosaic.TcCoe Idealize.SL.Sem

/-- The rounded program's body is the same text as the idealized one's. -/
theorem defs₀_eq : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) =>
    dsimp only
    unfold Cert.Kernel3.cc0_ffn_ln Cert.Kernel3Ideal.cc0_ffn_ln
    rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs Cert.Kernel3Ideal.pcfgs) defs₀_eq

theorem main_eq : Cert.Kernel3.main (F := Bits) = Cert.Kernel3Ideal.main (F := Bits) := rfl

variable (m : (ℓ : Loc Cert.Kernel3.nD Cert.Kernel3.τ Cert.Kernel3.sig) → Buf (Elt Bits) ℓ) (ρ : Dev Cert.Kernel3.nD → PrngReg)

theorem run : θ_run (Cert.Kernel3.defs (F := Bits)) (onTc (τ := Cert.Kernel3.τ) (Cert.Kernel3.main (F := Bits))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0) := by
  rw [defs_eq, main_eq]
  exact (θ_run Cert.Kernel3Ideal.defs _ _).mono (fun _ h => ⟨h.1, h.2.2⟩) (Cert.Ffn.run (F := Bits) m ρ)

end Cert.FfnBits

end
-- ==== Proof.FfnSpec.lean ====
module

public import proofs.«01_k».proof.Proof.MergeSpec

/-! The feed-forward stage with its residual and layer normalisation, as scalar formulas over the extended reals, and the
two facts of arithmetic by which the kernel's order of work agrees with it: a sum over the 5504 hidden channels taken in
six parts, and a residual carried at twice its scale and halved at the end. -/

@[expose] public section

noncomputable section

namespace Cert.Ffn

open Idealize.ShloMosaic
open Cert.Merge (layerNorm)

/-- One hidden channel of a token's row `x`: its gate column `u` through the sigmoid-weighted unit, times its up column `v`. -/
def act (x u v : Fin 2048 → EReal) : EReal :=
  (∑ k, x k * u k) * Ideal.logistic (∑ k, x k * u k) * ∑ k, x k * v k

/-- Hidden channel `k`'s contribution to output channel `l`: the gate column is `k`, the up column `5504 + k`. -/
def term (x : Fin 2048 → EReal) (W : Fin 2048 → Fin 11008 → EReal) (D : Fin 5504 → Fin 2048 → EReal) (l : Fin 2048)
    (k : Fin 5504) : EReal :=
  act x (fun i => W i ⟨k, by omega⟩) (fun i => W i ⟨5504 + k, by omega⟩) * D k l

/-- One token's row after the stage, at channel `l`. -/
def tokenOut (x : Fin 2048 → EReal) (W : Fin 2048 → Fin 11008 → EReal) (D : Fin 5504 → Fin 2048 → EReal)
    (g b : Fin 2048 → EReal) (l : Fin 2048) : EReal :=
  layerNorm (fun j => Ideal.ofBits FTy.f32 0x3F9837F0#32 * x j + Ideal.ofBits FTy.f32 0x3F000000#32 * ∑ k, term x W D j k) g b l

/-- `tokenOut` at a row and a channel of the whole arrays. -/
def stageOut (x : (⟨2, ![32768, 2048]⟩ : Shape).Idx → EReal) (W : (⟨2, ![2048, 11008]⟩ : Shape).Idx → EReal)
    (D : (⟨2, ![5504, 2048]⟩ : Shape).Idx → EReal) (g b : (⟨1, ![2048]⟩ : Shape).Idx → EReal)
    (r : Fin 32768) (l : Fin 2048) : EReal :=
  tokenOut (fun k => x (ix2 r k)) (fun k j => W (ix2 k j)) (fun k j => D (ix2 k j)) (fun k => g (ix1 k)) (fun k => b (ix1 k)) l

/-- A sum over the hidden channels, taken as five parts of 1024 and one of 384. -/
theorem sum_parts (f : Fin 5504 → EReal) :
    ∑ k, f k = ((((∑ k : Fin 1024, f ⟨k, by omega⟩) + ∑ k : Fin 1024, f ⟨1024 + k, by omega⟩)
      + ∑ k : Fin 1024, f ⟨2048 + k, by omega⟩) + ∑ k : Fin 1024, f ⟨3072 + k, by omega⟩)
      + (∑ k : Fin 1024, f ⟨4096 + k, by omega⟩) + ∑ k : Fin 384, f ⟨5120 + k, by omega⟩ := by
  rw [show (∑ k, f k) = _ from Fin.sum_univ_add (a := 5120) (b := 384) f]
  rw [show (∑ k : Fin 5120, f (Fin.castAdd 384 k)) = _ from Fin.sum_univ_add (a := 4096) (b := 1024) _]
  rw [show (∑ k : Fin 4096, f (Fin.castAdd 384 (Fin.castAdd 1024 k))) = _ from Fin.sum_univ_add (a := 3072) (b := 1024) _]
  rw [show (∑ k : Fin 3072, f (Fin.castAdd 384 (Fin.castAdd 1024 (Fin.castAdd 1024 k)))) = _ from Fin.sum_univ_add (a := 2048) (b := 1024) _]
  rw [show (∑ k : Fin 2048, f (Fin.castAdd 384 (Fin.castAdd 1024 (Fin.castAdd 1024 (Fin.castAdd 1024 k))))) = _ from Fin.sum_univ_add (a := 1024) (b := 1024) _]
  rfl

theorem half_val : Ideal.ofBits FTy.f32 0x3F000000#32 = ((1 / 2 : ℝ) : EReal) := by
  simp [Ideal.ofBits, Ideal.ieee]
  rw [← EReal.coe_mul]
  norm_num
theorem twice_val : Ideal.ofBits FTy.f32 0x401837F0#32 = ((9975792 / 4194304 : ℝ) : EReal) := by
  simp [Ideal.ofBits, Ideal.ieee]
  rw [← EReal.coe_mul]
  norm_num
theorem once_val : Ideal.ofBits FTy.f32 0x3F9837F0#32 = ((9975792 / 8388608 : ℝ) : EReal) := by
  simp [Ideal.ofBits, Ideal.ieee]
  rw [← EReal.coe_mul]
  norm_num

/-- Half of a residual carried at twice its scale plus a sum is the residual plus half the sum. -/
theorem half_twice (x s : EReal) :
    Ideal.ofBits FTy.f32 0x3F000000#32 * (Ideal.ofBits FTy.f32 0x401837F0#32 * x + s)
      = Ideal.ofBits FTy.f32 0x3F9837F0#32 * x + Ideal.ofBits FTy.f32 0x3F000000#32 * s := by
  rw [half_val, twice_val, once_val]
  rw [EReal.left_distrib_of_nonneg_of_ne_top (by exact_mod_cast (by norm_num : (0 : ℝ) ≤ 1 / 2)) (EReal.coe_ne_top _)]
  rw [← mul_assoc, ← EReal.coe_mul]
  norm_num

end Cert.Ffn

end
-- ==== Proof.FfnRef.lean ====
module

public import proofs.«01_k».proof.Proof.FfnSpec
public import proofs.«01_k».proof.Proof.Gen.Reference3Ideal.Run
public import Idealize.ShloMosaic.Lib.Pointwise
public import Idealize.ShloMosaic.Lib.Tactic.CleanTypes

/-! The host reference of the feed-forward stage, read at an index. -/

@[expose] public section

set_option maxRecDepth 16384

noncomputable section

namespace Cert.Ffn

open Cert.Reference3Ideal Cert.Reference3Ideal.Value Idealize.ShloMosaic Idealize.ShloMosaic.TcCoe Idealize.SL.Sem

variable (m : (ℓ : Loc nD τ sig) → Buf (Elt Ideal) ℓ)

set_option maxHeartbeats 2000000 in
/-- The reference's result at row `r`, channel `l`. -/
theorem reference_apply (c : Dev nD) (r : Fin 32768) (l : Fin 2048) :
    res_main_v34 m c (ix2 r l) = stageOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) r l := by
  unfold res_main_v34
  clean_types
  pointwise []
  unfold stageOut tokenOut Cert.Merge.layerNorm Cert.Merge.mean term act Ideal.logistic
  first | rfl | trace_state

end Cert.Ffn

end
-- ==== Proof.FfnChunk.lean ====
module

public import proofs.«01_k».proof.Proof.FfnSpec
public import proofs.«01_k».proof.Proof.FfnBase
public import Idealize.ShloMosaic.Lib.Pointwise

/-! What each step of the feed-forward kernel computes on a tile, read at an index over the extended reals. -/

@[expose] public section

set_option maxRecDepth 16384

noncomputable section

namespace Cert.Ffn

open Cert.Kernel3Ideal Cert.Kernel3Ideal.Gen Idealize.ShloMosaic Idealize.ShloMosaic.TcCoe
open Cert.Merge (layerNorm mean)

/-- One hidden channel's contribution, from a row, a gate column, an up column and an entry of `w_down`. -/
def part {n : ℕ} (x : Fin 2048 → EReal) (wg wu : Fin 2048 → Fin n → EReal) (wd : Fin n → EReal) : EReal :=
  ∑ k : Fin n, act x (fun i => wg i k) (fun i => wu i k) * wd k

section Chunks

variable (v : Vec Ideal S256x2048 .f32) (wg wu : Vec Ideal S2048x1024 .bf16) (wd : Vec Ideal S1024x2048 .bf16) (a : Fin 256) (l : Fin 2048)

theorem pay3_apply : k0_pay3 v wg wu wd (ix2 a l) = Ideal.ofBits FTy.f32 0x401837F0#32 * v (ix2 a l)
    + part (fun i => v (ix2 a i)) (fun i k => wg (ix2 i k)) (fun i k => wu (ix2 i k)) (fun k => wd (ix2 k l)) := by
  unfold part act
  pointwise [k0_pay3, k0_pay1]
theorem pay7_apply : k0_pay7 (k0_pay4 v) (k0_pay6 v) wg wu wd (ix2 a l) = Ideal.ofBits FTy.f32 0x401837F0#32 * v (ix2 a l)
    + part (fun i => v (ix2 a i)) (fun i k => wg (ix2 i k)) (fun i k => wu (ix2 i k)) (fun k => wd (ix2 k l)) := by
  unfold part act
  pointwise [k0_pay7, k0_pay6, k0_pay4]
theorem pay27_apply : k0_pay27 (k0_pay10 v) (k0_pay11 v wg wu) wd (ix2 a l) = Ideal.ofBits FTy.f32 0x401837F0#32 * v (ix2 a l)
    + part (fun i => v (ix2 a i)) (fun i k => wg (ix2 i k)) (fun i k => wu (ix2 i k)) (fun k => wd (ix2 k l)) := by
  unfold part act
  pointwise [k0_pay27, k0_pay10, k0_pay11, k0_pay8]
theorem pay30_apply : k0_pay30 v wg wu wd (ix2 a l) = Ideal.ofBits FTy.f32 0x401837F0#32 * v (ix2 a l)
    + part (fun i => v (ix2 a i)) (fun i k => wg (ix2 i k)) (fun i k => wu (ix2 i k)) (fun k => wd (ix2 k l)) := by
  unfold part act
  pointwise [k0_pay30, k0_pay28]

end Chunks

section Middle

variable (f : Vec Ideal S1024x2048 .f32) (xb : Vec Ideal S1024x2048 .bf16) (wg wu : Vec Ideal S2048x1024 .bf16)
  (wd : Vec Ideal S1024x2048 .bf16) (r : Fin 1024) (l : Fin 2048)

theorem pay31_apply : k0_pay31 f xb wg wu wd (ix2 r l) = f (ix2 r l)
    + part (fun i => xb (ix2 r i)) (fun i k => wg (ix2 i k)) (fun i k => wu (ix2 i k)) (fun k => wd (ix2 k l)) := by
  unfold part act
  pointwise [k0_pay31]
theorem pay32_apply : k0_pay32 f xb wg wu wd (ix2 r l) = f (ix2 r l)
    + part (fun i => xb (ix2 r i)) (fun i k => wg (ix2 i k)) (fun i k => wu (ix2 i k)) (fun k => wd (ix2 k l)) := by
  unfold part act
  pointwise [k0_pay32]

end Middle

section Last

variable (xb : Vec Ideal S256x2048 .bf16) (wg wu wt : Vec Ideal S2048x256 .bf16) (f : Vec Ideal S256x2048 .f32)
  (wd : Vec Ideal S384x2048 .bf16) (g b : Vec Ideal S1x2048 .f32) (a : Fin 256) (l : Fin 2048)

/-- The last 384 hidden channels' contribution to output channel `j`: 256 from the weight blocks, 128 from the tails. -/
def lastPart (j : Fin 2048) : EReal :=
  part (fun i => xb (ix2 a i)) (fun i (k : Fin 256) => wg (ix2 i k)) (fun i k => wu (ix2 i k)) (fun k => wd (ix2 ⟨k, by omega⟩ j))
    + part (fun i => xb (ix2 a i)) (fun i (k : Fin 128) => wt (ix2 i ⟨k, by omega⟩)) (fun i k => wt (ix2 i ⟨128 + k, by omega⟩))
        (fun k => wd (ix2 ⟨256 + k, by omega⟩ j))

/-- The normalised row after the last step. -/
def lastRow : EReal :=
  layerNorm (fun j => Ideal.ofBits FTy.f32 0x3F000000#32 * (f (ix2 a j) + lastPart xb wg wu wt wd a j))
    (fun k => g (ix2 0 k)) (fun k => b (ix2 0 k)) l

set_option maxHeartbeats 1000000 in
theorem pay16_apply : k0_pay16 (k0_pay12 g) (k0_pay13 b) (k0_pay14 xb wg wu wt f wd) (k0_pay15 xb wg wu wt f wd) (ix2 a l)
    = lastRow xb wg wu wt f wd g b a l := by
  unfold lastRow lastPart layerNorm mean part act
  pointwise [k0_pay16, k0_pay12, k0_pay13, k0_pay15, k0_pay14]
set_option maxHeartbeats 1000000 in
theorem pay18_apply : k0_pay18 (k0_pay17 xb wg wu wt f wd) g b (ix2 a l) = lastRow xb wg wu wt f wd g b a l := by
  unfold lastRow lastPart layerNorm mean part act
  pointwise [k0_pay18, k0_pay17]
set_option maxHeartbeats 1000000 in
theorem pay22_apply : k0_pay22 (k0_pay21 xb (k0_pay19 xb wg) (k0_pay20 xb wu) wt f wd g b) (ix2 a l)
    = lastRow xb wg wu wt f wd g b a l := by
  unfold lastRow lastPart layerNorm mean part act
  pointwise [k0_pay22, k0_pay21, k0_pay19, k0_pay20]
set_option maxHeartbeats 1000000 in
theorem pay33_apply : k0_pay33 (k0_pay23 xb wg wu wt f wd) (k0_pay24 g) (k0_pay25 b) (k0_pay26 xb wg wu wt f wd) (ix2 a l)
    = lastRow xb wg wu wt f wd g b a l := by
  unfold lastRow lastPart layerNorm mean part act
  pointwise [k0_pay33, k0_pay23, k0_pay24, k0_pay25, k0_pay26]

end Last

/-! ## Whole tiles -/

section Tiles

variable (x : Vec Ideal S1024x2048 .f32) (f : Vec Ideal S1024x2048 .f32) (xb : Vec Ideal S1024x2048 .bf16)
  (wg wu : Vec Ideal S2048x1024 .bf16) (wd : Vec Ideal S1024x2048 .bf16) (wt : Vec Ideal S2048x256 .bf16) (g b : Vec Ideal S1x2048 .f32)

/-- A stack of four row blocks whose entries follow one formula follows that formula. -/
theorem stack4_apply {e : EltTy} (w0 w1 w2 w3 : Vec Ideal S256x2048 e) (h : Fin 1024 → Fin 2048 → Elt Ideal e)
    (h0 : ∀ (a : Fin 256) l, w0 (ix2 a l) = h ⟨256 * (0 : Fin 4).val + a, by have := a.isLt; show 256 * 0 + _ < _; omega⟩ l)
    (h1 : ∀ (a : Fin 256) l, w1 (ix2 a l) = h ⟨256 * (1 : Fin 4).val + a, by have := a.isLt; show 256 * 1 + _ < _; omega⟩ l)
    (h2 : ∀ (a : Fin 256) l, w2 (ix2 a l) = h ⟨256 * (2 : Fin 4).val + a, by have := a.isLt; show 256 * 2 + _ < _; omega⟩ l)
    (h3 : ∀ (a : Fin 256) l, w3 (ix2 a l) = h ⟨256 * (3 : Fin 4).val + a, by have := a.isLt; show 256 * 3 + _ < _; omega⟩ l)
    (r : Fin 1024) (l : Fin 2048) : stack4 w0 w1 w2 w3 (ix2 r l) = h r l := by
  have hr := r.isLt
  have key : ∀ (q : Fin 4) (hq : r.val / 256 = q.val), stack4 w0 w1 w2 w3 (ix2 r l)
      = (![w0, w1, w2, w3] q) (ix2 ⟨r.val % 256, Nat.mod_lt _ (by norm_num)⟩ l) := fun q hq =>
    congrArg (fun q => (![w0, w1, w2, w3] q) (ix2 ⟨r.val % 256, Nat.mod_lt _ (by norm_num)⟩ l)) (Fin.ext hq : (⟨r.val / 256, by omega⟩ : Fin 4) = q)
  obtain hq | hq | hq | hq : r.val / 256 = 0 ∨ r.val / 256 = 1 ∨ r.val / 256 = 2 ∨ r.val / 256 = 3 := by omega
  · exact (key 0 hq).trans ((h0 _ _).trans (congrArg (fun r => h r l) (Fin.ext (by show 256 * 0 + r.val % 256 = r.val; omega))))
  · exact (key 1 hq).trans ((h1 _ _).trans (congrArg (fun r => h r l) (Fin.ext (by show 256 * 1 + r.val % 256 = r.val; omega))))
  · exact (key 2 hq).trans ((h2 _ _).trans (congrArg (fun r => h r l) (Fin.ext (by show 256 * 2 + r.val % 256 = r.val; omega))))
  · exact (key 3 hq).trans ((h3 _ _).trans (congrArg (fun r => h r l) (Fin.ext (by show 256 * 3 + r.val % 256 = r.val; omega))))

theorem tileB_apply (r : Fin 1024) (l : Fin 2048) : tileB x (ix2 r l) = x (ix2 r l) := by
  unfold tileB
  refine stack4_apply _ _ _ _ (fun r l => x (ix2 r l)) (fun a l => ?_) (fun a l => ?_) (fun a l => ?_) (fun a l => ?_) r l
  · exact (show _ = rows x 0 (ix2 a l) by pointwise [k0_pay2, k0_pay1]).trans rfl
  · exact (show _ = rows x 1 (ix2 a l) by pointwise [k0_pay5, k0_pay4]).trans rfl
  · exact (show _ = rows x 2 (ix2 a l) by pointwise [k0_pay9, k0_pay8]).trans rfl
  · exact (show _ = rows x 3 (ix2 a l) by pointwise [k0_pay29, k0_pay28]).trans rfl

theorem tile0_apply (r : Fin 1024) (l : Fin 2048) : tile0 x wg wu wd (ix2 r l) = Ideal.ofBits FTy.f32 0x401837F0#32 * x (ix2 r l)
    + part (fun i => x (ix2 r i)) (fun i k => wg (ix2 i k)) (fun i k => wu (ix2 i k)) (fun k => wd (ix2 k l)) := by
  unfold tile0
  refine stack4_apply (e := .f32) _ _ _ _ (fun r l => Ideal.ofBits FTy.f32 0x401837F0#32 * x (ix2 r l)
    + part (fun i => x (ix2 r i)) (fun i k => wg (ix2 i k)) (fun i k => wu (ix2 i k)) (fun k => wd (ix2 k l)))
    (fun a l => ?_) (fun a l => ?_) (fun a l => ?_) (fun a l => ?_) r l
  · exact (pay3_apply (rows x 0) wg wu wd a l).trans rfl
  · exact (pay7_apply (rows x 1) wg wu wd a l).trans rfl
  · exact (pay27_apply (rows x 2) wg wu wd a l).trans rfl
  · exact (pay30_apply (rows x 3) wg wu wd a l).trans rfl

/-- The last 384 hidden channels' contribution to row `r`, channel `j`: the gate block's first 256 columns, the up block's
columns from 640 on, the tails, and the first 384 rows of the `w_down` block. -/
def tailPart (r : Fin 1024) (j : Fin 2048) : EReal :=
  part (fun i => xb (ix2 r i)) (fun i (k : Fin 256) => wg (ix2 i ⟨k, by omega⟩)) (fun i k => wu (ix2 i ⟨640 + k, by omega⟩))
      (fun k => wd (ix2 ⟨k, by omega⟩ j))
    + part (fun i => xb (ix2 r i)) (fun i (k : Fin 128) => wt (ix2 i ⟨k, by omega⟩)) (fun i k => wt (ix2 i ⟨128 + k, by omega⟩))
        (fun k => wd (ix2 ⟨256 + k, by omega⟩ j))

theorem last_rows (q : Fin 4) (a : Fin 256) (l : Fin 2048) :
    lastRow (rows xb q) (cols wg 0 (by norm_num)) (cols wu 640 (by norm_num)) wt (rows f q) (top wd) g b a l
      = layerNorm (fun j => Ideal.ofBits FTy.f32 0x3F000000#32 * (f (ix2 ⟨256 * q.val + a, by omega⟩ j)
          + tailPart xb wg wu wd wt ⟨256 * q.val + a, by omega⟩ j)) (fun k => g (ix2 0 k)) (fun k => b (ix2 0 k)) l := by
  have hc : ∀ (i : Fin 2048) (k : Fin 256), cols wg 0 (by norm_num) (ix2 i k) = wg (ix2 i ⟨k, by omega⟩) := fun i k =>
    congrArg (fun k => wg (ix2 i k)) (Fin.ext (Nat.zero_add _))
  unfold lastRow lastPart tailPart
  simp only [hc]
  rfl

theorem tile5_apply (r : Fin 1024) (l : Fin 2048) : tile5 xb f wg wu wd wt g b (ix2 r l)
    = layerNorm (fun j => Ideal.ofBits FTy.f32 0x3F000000#32 * (f (ix2 r j) + tailPart xb wg wu wd wt r j))
        (fun k => g (ix2 0 k)) (fun k => b (ix2 0 k)) l := by
  unfold tile5
  refine stack4_apply (e := .f32) _ _ _ _ (fun r l => layerNorm (fun j => Ideal.ofBits FTy.f32 0x3F000000#32 * (f (ix2 r j) + tailPart xb wg wu wd wt r j))
        (fun k => g (ix2 0 k)) (fun k => b (ix2 0 k)) l) (fun a l => ?_) (fun a l => ?_) (fun a l => ?_) (fun a l => ?_) r l
  · exact (pay16_apply _ _ _ _ _ _ _ _ a l).trans (last_rows f xb wg wu wd wt g b 0 a l)
  · exact (pay18_apply _ _ _ _ _ _ _ _ a l).trans (last_rows f xb wg wu wd wt g b 1 a l)
  · exact (pay22_apply _ _ _ _ _ _ _ _ a l).trans (last_rows f xb wg wu wd wt g b 2 a l)
  · exact (pay33_apply _ _ _ _ _ _ _ _ a l).trans (last_rows f xb wg wu wd wt g b 3 a l)

end Tiles

end Cert.Ffn

end
-- ==== Proof.FfnValue.lean ====
module

public import proofs.«01_k».proof.Proof.FfnChunk
public import proofs.«01_k».proof.Proof.FfnFrame
public import Idealize.ShloMosaic.Lib.Pipeline.ValueKit

/-! The feed-forward kernel's result array over the extended reals: the six steps of a tile are the six parts of the sum
over the hidden channels, and each row of the result is the stage's formula. -/

@[expose] public section

set_option maxRecDepth 16384

noncomputable section

namespace Cert.Ffn

open Cert.Kernel3Ideal Cert.Kernel3Ideal.Gen Idealize.ShloMosaic Idealize.ShloMosaic.TcCoe Idealize.SL.Sem
open Cert.Merge (layerNorm mean)

variable (m : (ℓ : Loc nD τ sig) → Buf (Elt Ideal) ℓ) (c : Dev nD)

/-! ## The arrays the windows read -/

abbrev argX : S32768x2048.Idx → EReal := m ((c.tc : Thread nD τ).loc main_arg0)
abbrev argW : S2048x11008.Idx → EReal := m ((c.tc : Thread nD τ).loc main_arg1)
abbrev argD : S5504x2048.Idx → EReal := m ((c.tc : Thread nD τ).loc main_arg2)
abbrev argG : S2048.Idx → EReal := m ((c.tc : Thread nD τ).loc main_arg3)
abbrev argB : S2048.Idx → EReal := m ((c.tc : Thread nD τ).loc main_arg4)

theorem V_w (i : Fin 2048) (j : Fin 11008) : (V m c main_v0 : S2048x11008.Idx → EReal) (ix2 i j) = argW m c (ix2 i j) := by
  unfold V
  entry_read
  pointwise
theorem V_d (i : Fin 5504) (j : Fin 2048) : (V m c main_v4 : S5504x2048.Idx → EReal) (ix2 i j) = argD m c (ix2 i j) := by
  unfold V
  entry_read
  pointwise
theorem V_t (i : Fin 2048) (j : Fin 256) : (V m c main_v3 : S2048x256.Idx → EReal) (ix2 i j)
    = if h : j.val < 128 then argW m c (ix2 i ⟨5376 + j, by omega⟩) else argW m c (ix2 i ⟨10880 + (j.val - 128), by omega⟩) := by
  unfold V
  entry_read
  pointwise
theorem V_g (j : Fin 2048) : (V m c main_v5 : S1x2048.Idx → EReal) (ix2 0 j) = argG m c (ix1 j) := by
  unfold V
  entry_read
  pointwise
theorem V_b (j : Fin 2048) : (V m c main_v6 : S1x2048.Idx → EReal) (ix2 0 j) = argB m c (ix1 j) := by
  unfold V
  entry_read
  pointwise

/-- Where each window stands at point `t`. -/
theorem idx : ∀ t : Fin grid0.N, win0_0.index t = ![0, t.val % 6] ∧ win0_1.index t = ![0, min (5504 + 1024 * (t.val % 6)) 9984]
    ∧ win0_2.index t = ![t.val % 6, 0] ∧ win0_3.index t = ![0, 0] ∧ win0_4.index t = ![0, 0] ∧ win0_5.index t = ![0, 0] := by decide +kernel

theorem tail_apply (t : Fin cfg0.N) (i : Fin 2048) (j : Fin 256) : tailAt m c t (ix2 i j) = (V m c main_v3 : S2048x256.Idx → EReal) (ix2 i j) := by
  unfold tailAt
  blk_ext [iblk, idx t]
theorem scale_apply (t : Fin cfg0.N) (j : Fin 2048) : scaleAt m c t (ix2 0 j) = argG m c (ix1 j) := by
  refine Eq.trans ?_ (V_g m c j)
  unfold scaleAt
  blk_ext [iblk, idx t]
theorem shift_apply (t : Fin cfg0.N) (j : Fin 2048) : shiftAt m c t (ix2 0 j) = argB m c (ix1 j) := by
  refine Eq.trans ?_ (V_b m c j)
  unfold shiftAt
  blk_ext [iblk, idx t]
theorem up_apply (t : Fin cfg0.N) (i : Fin 2048) (j : Fin 1024) (o : ℕ) (ho : o = min (5504 + 1024 * (t.val % 6)) 9984) :
    upAt m c t (ix2 i j) = argW m c (ix2 i ⟨o + j, by omega⟩) := by
  subst ho
  refine Eq.trans ?_ (V_w m c _ _)
  refine congrArg (V m c main_v0 : S2048x11008.Idx → EReal) (funext (Fin.forall_fin_two.mpr ⟨Fin.ext ?_, Fin.ext ?_⟩))
  · show win0_1.index t 0 + 1 * i.val = i.val
    rw [(idx t).2.1]
    show 0 + 1 * i.val = i.val
    omega
  · show win0_1.index t 1 + 1 * j.val = min (5504 + 1024 * (t.val % 6)) 9984 + j.val
    rw [(idx t).2.1]
    show min (5504 + 1024 * (t.val % 6)) 9984 + 1 * j.val = _
    omega
theorem gate_apply (t : Fin cfg0.N) (i : Fin 2048) (j : Fin 1024) (k : ℕ) (hk : t.val % 6 = k) (hk' : k < 6) :
    gateAt m c t (ix2 i j) = argW m c (ix2 i ⟨1024 * k + j, by omega⟩) := by
  subst hk
  refine Eq.trans ?_ (V_w m c _ _)
  unfold gateAt X0_0 Pipeline.Window.fill
  rw [dif_pos (moved0_0 t (ix2 i j))]
  blk_ext [iblk, idx t]
theorem down_apply (t : Fin cfg0.N) (j : Fin 1024) (l : Fin 2048) (k : ℕ) (hk : t.val % 6 = k) (hj : 1024 * k + j.val < 5504) :
    downAt m c t (ix2 j l) = argD m c (ix2 ⟨1024 * k + j, hj⟩ l) := by
  subst hk
  refine Eq.trans ?_ (V_d m c _ _)
  have hm : (cfg0.win 2).moved (cfg0.grid.coords t) (ix2 j l) = true := by
    refine ((cfg0.win 2).moved_iff _ _).mpr (Fin.forall_fin_two.mpr ⟨?_, ?_⟩)
    · by_cases h5 : t.val % 6 = 5
      · have : j.val < 384 := by omega
        exact lt_of_lt_of_le this (xsize2' t).1
      · rw [xsize2 t h5 0]; exact j.isLt
    · rw [(xsize2' t).2]; exact l.isLt
  unfold downAt Pipeline.Window.fill
  rw [dif_pos hm]
  blk_ext [iblk, idx t]

/-! ## A step's contribution -/

/-- The arguments as a token's row and matrices. -/
abbrev row (r : Fin 32768) : Fin 2048 → EReal := fun k => argX m c (ix2 r k)
abbrev mW : Fin 2048 → Fin 11008 → EReal := fun k j => argW m c (ix2 k j)
abbrev mD : Fin 5504 → Fin 2048 → EReal := fun k j => argD m c (ix2 k j)

theorem part_congr {n : ℕ} (x : Fin 2048 → EReal) {wg wg' wu wu' : Fin 2048 → Fin n → EReal} {wd wd' : Fin n → EReal}
    (hg : ∀ i k, wg i k = wg' i k) (hu : ∀ i k, wu i k = wu' i k) (hd : ∀ k, wd k = wd' k) : part x wg wu wd = part x wg' wu' wd' := by
  rw [show wg = wg' from funext fun i => funext (hg i), show wu = wu' from funext fun i => funext (hu i), show wd = wd' from funext hd]

/-- Steps 0 to 4 each add 1024 hidden channels. -/
theorem chunk_apply (x : Fin 2048 → EReal) (t : Fin cfg0.N) (k : ℕ) (hk : t.val % 6 = k) (hk' : k < 5) (l : Fin 2048) :
    part x (fun i j => gateAt m c t (ix2 i j)) (fun i j => upAt m c t (ix2 i j)) (fun j => downAt m c t (ix2 j l))
      = ∑ j : Fin 1024, term x (mW m c) (mD m c) l ⟨1024 * k + j, by omega⟩ := by
  rw [part_congr x (fun i j => gate_apply m c t i j k hk (by omega)) (fun i j => up_apply m c t i j (5504 + 1024 * k) (by omega))
    (fun j => down_apply m c t j l k hk (by omega))]
  refine Finset.sum_congr rfl fun j _ => ?_
  unfold term
  have e : (⟨5504 + 1024 * k + j.val, by omega⟩ : Fin 11008) = ⟨5504 + (1024 * k + j.val), by omega⟩ := Fin.ext (Nat.add_assoc _ _ _)
  simp only [e]

/-- A matrix's entry at a column written in two ways. -/
theorem col_eq {n : ℕ} (f : Fin n → EReal) {p q : ℕ} (hp : p < n) (hq : q < n) (h : p = q) : f ⟨p, hp⟩ = f ⟨q, hq⟩ := by
  subst h; rfl

theorem part_term {n : ℕ} (x : Fin 2048 → EReal) (wg wu : Fin 2048 → Fin n → EReal) (wd : Fin n → EReal) (l : Fin 2048)
    (q : Fin n → Fin 5504) (hg : ∀ i k, wg i k = mW m c i ⟨(q k).val, by omega⟩) (hu : ∀ i k, wu i k = mW m c i ⟨5504 + (q k).val, by omega⟩)
    (hd : ∀ k, wd k = mD m c (q k) l) : part x wg wu wd = ∑ k, term x (mW m c) (mD m c) l (q k) :=
  part_congr x hg hu hd

theorem sum_tail (f : Fin 384 → EReal) :
    ∑ k, f k = (∑ k : Fin 256, f ⟨k, by omega⟩) + ∑ k : Fin 128, f ⟨256 + k, by omega⟩ := Fin.sum_univ_add (a := 256) (b := 128) f

/-- Step 5 adds the last 384. -/
theorem tail_part (x : Vec Ideal S1024x2048 .bf16) (t : Fin cfg0.N) (hk : t.val % 6 = 5) (r : Fin 1024) (l : Fin 2048) :
    tailPart x (gateAt m c t) (upAt m c t) (downAt m c t) (tailAt m c t) r l
      = ∑ k : Fin 384, term (fun i => x (ix2 r i)) (mW m c) (mD m c) l ⟨5120 + k, by omega⟩ := by
  rw [sum_tail]
  unfold tailPart
  refine congrArg₂ (· + ·) (part_term m c _ _ _ _ l (fun k : Fin 256 => ⟨5120 + k.val, by omega⟩) ?_ ?_ ?_)
    (part_term m c _ _ _ _ l (fun k : Fin 128 => ⟨5120 + (256 + k.val), by omega⟩) ?_ ?_ ?_)
  · intro i k
    refine (gate_apply m c t i _ 5 hk (by omega)).trans (col_eq (fun q => argW m c (ix2 i q)) _ _ ?_)
    simp only [Nat.reduceMul]
  · intro i k
    refine (up_apply m c t i _ 9984 (by omega)).trans (col_eq (fun q => argW m c (ix2 i q)) _ _ ?_)
    simp only
    omega
  · intro k
    refine (down_apply m c t _ l 5 hk (by simp only; omega)).trans (col_eq (fun q => argD m c (ix2 q l)) _ _ ?_)
    simp only [Nat.reduceMul]
  · intro i k
    refine (tail_apply m c t i _).trans ((V_t m c i _).trans ((dif_pos k.isLt).trans (col_eq (fun q => argW m c (ix2 i q)) _ _ ?_)))
    simp only
    omega
  · intro i k
    refine (tail_apply m c t i _).trans ((V_t m c i _).trans ((dif_neg (by simp only; omega)).trans
      (col_eq (fun q => argW m c (ix2 i q)) _ _ ?_)))
    simp only
    omega
  · intro k
    refine (down_apply m c t _ l 5 hk (by simp only; omega)).trans (col_eq (fun q => argD m c (ix2 q l)) _ _ ?_)
    simp only [Nat.reduceMul]

/-! ## A tile of the result -/

theorem pt_mod (i k : ℕ) (hi : i < 32) (hk : k < 6) : (pt (6 * i + k)).val % 6 = k := by
  show (6 * i + k) % 192 % 6 = k
  omega

theorem xt_apply (i : ℕ) (hi : i < 32) (r : Fin 1024) (l : Fin 2048) : xt m c i (ix2 r l) = row m c ⟨1024 * i + r, by omega⟩ l := by
  have e : (⟨(1024 * i + r.val) % 32768, Nat.mod_lt _ (by norm_num)⟩ : Fin 32768) = ⟨1024 * i + r.val, by omega⟩ :=
    Fin.ext (Nat.mod_eq_of_lt (by omega))
  show (V m c main_arg0 : S32768x2048.Idx → EReal) (ix2 ⟨(1024 * i + r.val) % 32768, _⟩ l) = _
  rw [V_main_arg0 m c, e]

theorem xb_apply (i : ℕ) (hi : i < 32) (r : Fin 1024) (l : Fin 2048) : tileB (xt m c i) (ix2 r l) = row m c ⟨1024 * i + r, by omega⟩ l :=
  (tileB_apply _ r l).trans (xt_apply m c i hi r l)

/-- The accumulated rows after the first five steps. -/
theorem acc_apply (i : ℕ) (hi : i < 32) (r : Fin 1024) (l : Fin 2048) :
    let f := term (row m c ⟨1024 * i + r, by omega⟩) (mW m c) (mD m c) l
    accAt m c i 4 (ix2 r l) = Ideal.ofBits FTy.f32 0x401837F0#32 * row m c ⟨1024 * i + r, by omega⟩ l
      + (∑ k : Fin 1024, f ⟨1024 * 0 + k, by omega⟩) + (∑ k : Fin 1024, f ⟨1024 * 1 + k, by omega⟩)
      + (∑ k : Fin 1024, f ⟨1024 * 2 + k, by omega⟩) + (∑ k : Fin 1024, f ⟨1024 * 3 + k, by omega⟩)
      + ∑ k : Fin 1024, f ⟨1024 * 4 + k, by omega⟩ := by
  intro f
  have hx : (fun j => xt m c i (ix2 r j)) = row m c ⟨1024 * i + r, by omega⟩ := funext (xt_apply m c i hi r)
  have hb : (fun j => tileB (xt m c i) (ix2 r j)) = row m c ⟨1024 * i + r, by omega⟩ := funext (xb_apply m c i hi r)
  have h0 : accAt m c i 0 (ix2 r l) = Ideal.ofBits FTy.f32 0x401837F0#32 * row m c ⟨1024 * i + r, by omega⟩ l
      + ∑ k : Fin 1024, f ⟨1024 * 0 + k, by omega⟩ := by
    rw [← chunk_apply m c _ (pt (6 * i)) 0 (pt_mod i 0 hi (by omega)) (by omega) l, ← hx]
    exact tile0_apply _ _ _ _ r l
  have h1 : accAt m c i 1 (ix2 r l) = accAt m c i 0 (ix2 r l) + ∑ k : Fin 1024, f ⟨1024 * 1 + k, by omega⟩ := by
    rw [← chunk_apply m c _ (pt (6 * i + 1)) 1 (pt_mod i 1 hi (by omega)) (by omega) l, ← hb]
    exact pay31_apply _ _ _ _ _ r l
  have h2 : accAt m c i 2 (ix2 r l) = accAt m c i 1 (ix2 r l) + ∑ k : Fin 1024, f ⟨1024 * 2 + k, by omega⟩ := by
    rw [← chunk_apply m c _ (pt (6 * i + 2)) 2 (pt_mod i 2 hi (by omega)) (by omega) l, ← hb]
    exact pay32_apply _ _ _ _ _ r l
  have h3 : accAt m c i 3 (ix2 r l) = accAt m c i 2 (ix2 r l) + ∑ k : Fin 1024, f ⟨1024 * 3 + k, by omega⟩ := by
    rw [← chunk_apply m c _ (pt (6 * i + 3)) 3 (pt_mod i 3 hi (by omega)) (by omega) l, ← hb]
    exact pay32_apply _ _ _ _ _ r l
  have h4 : accAt m c i 4 (ix2 r l) = accAt m c i 3 (ix2 r l) + ∑ k : Fin 1024, f ⟨1024 * 4 + k, by omega⟩ := by
    rw [← chunk_apply m c _ (pt (6 * i + 4)) 4 (pt_mod i 4 hi (by omega)) (by omega) l, ← hb]
    exact pay32_apply _ _ _ _ _ r l
  rw [h4, h3, h2, h1, h0]

theorem res_apply (i : ℕ) (hi : i < 32) (r : Fin 1024) (l : Fin 2048) : resAt m c i (ix2 r l)
    = stageOut (argX m c) (argW m c) (argD m c) (argG m c) (argB m c) ⟨1024 * i + r, by omega⟩ l := by
  refine (tile5_apply _ _ _ _ _ _ _ _ r l).trans ?_
  unfold stageOut tokenOut
  have hb : (fun j => tileB (xt m c i) (ix2 r j)) = row m c ⟨1024 * i + r, by omega⟩ := funext (xb_apply m c i hi r)
  rw [show (fun k => scaleAt m c (pt (6 * i + 5)) (ix2 0 k)) = _ from funext (scale_apply m c _),
    show (fun k => shiftAt m c (pt (6 * i + 5)) (ix2 0 k)) = _ from funext (shift_apply m c _)]
  refine congrArg (fun y => layerNorm y _ _ l) (funext fun j => ?_)
  rw [tail_part m c _ _ (pt_mod i 5 hi (by omega)) r j, hb, acc_apply m c i hi r j, ← half_twice, sum_parts]
  simp only [← add_assoc, Nat.reduceMul, Nat.zero_add]

/-! ## The whole array -/

theorem out_apply (n : ℕ) (z : S32768x2048.Idx) (h : (z 0).val < 1024 * n) : (outAt m c n : S32768x2048.Idx → EReal) z
    = resAt m c ((z 0).val / 1024) (ix2 ⟨(z 0).val % 1024, Nat.mod_lt _ (by norm_num)⟩ (z 1)) := by
  induction n with
  | zero => omega
  | succ n ih =>
    show (if (z 0).val / 1024 = n then _ else _) = _
    split
    · next e => subst e; rfl
    · next e => exact ih (by omega)

/-- The kernel's result. -/
theorem final : (outAt m c 32 : S32768x2048.Idx → EReal)
    = fun z => stageOut (argX m c) (argW m c) (argD m c) (argG m c) (argB m c) (z 0) (z 1) := by
  funext z
  have hz : (z 0).val < 32768 := (z 0).isLt
  refine (out_apply m c 32 z (by omega)).trans ((res_apply m c _ (by omega) _ (z 1)).trans ?_)
  exact congrArg (fun r => stageOut (argX m c) (argW m c) (argD m c) (argG m c) (argB m c) r (z 1)) (Fin.ext (Nat.div_add_mod _ _))

end Cert.Ffn

end
-- ==== Proof.FfnClaim.lean ====
module

public import proofs.«01_k».proof.Defs
public import proofs.«01_k».proof.Proof.FfnStep
public import proofs.«01_k».proof.Proof.FfnRef
public import proofs.«01_k».proof.Proof.FfnValue
public import Idealize.ShloMosaic.Lib.Quiescent

/-! The claims of the feed-forward stage over the extended reals: both frames, and that the kernel and the host reference
end with the same array. -/

@[expose] public section

noncomputable section

namespace Cert.Ffn

open Idealize.ShloMosaic Idealize.SL.Sem

/-- The kernel's frame, from its run. -/
theorem kernel_frame : Cert.quiescent_Kernel3Ideal := fun m ρ _ =>
  (θ_run Cert.Kernel3Ideal.defs _ _).mono (fun _ h => ⟨h.1, h.2.2⟩) (Cert.Ffn.run (F := Ideal) m ρ)

/-- The reference's frame, from its run. -/
theorem reference_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Both programs' results are `stageOut` of arguments that agree. -/
theorem algebraic : Cert.algebraic_Kernel3Ideal_Reference3Ideal := by
  intro m ρ m' ρ' _ hagree
  refine ⟨_, (θ_run Cert.Kernel3Ideal.defs _ _).mono (fun _ h c => ⟨h.2.1 c, h.1 c⟩) (Cert.Ffn.run (F := Ideal) m ρ), ?_⟩
  refine (θ_run Cert.Reference3Ideal.defs _ _).mono (fun _ h c => ⟨(h c).1.trans ?_, (h c).2⟩)
    (Cert.Reference3Ideal.Value.run (F := Ideal) m' ρ')
  refine Eq.trans ?_ (final m c).symm
  funext i
  obtain ⟨h0, h1, h2, h3, h4⟩ := hagree c
  have e := reference_apply m' c (i 0) (i 1)
  rw [h0, h1, h2, h3, h4] at e
  exact (congrArg (Cert.Reference3Ideal.Value.res_main_v34 m' c) (eq_ix2 i)).trans e

end Cert.Ffn

end
-- ==== Proof.MemClaim.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Tactic.CleanTypes

/-! Keys and values of the memory tokens: a tiled product against one product over all rows. -/

@[expose] public section

set_option maxRecDepth 16384

noncomputable section

namespace Cert.Mem

open Idealize.ShloMosaic Idealize.ShloMosaic.TcCoe Idealize.SL.Sem

/-- Row `r` times column `l`. -/
def entry (x : (⟨2, ![4096, 2048]⟩ : Shape).Idx → EReal) (w : (⟨2, ![2048, 1024]⟩ : Shape).Idx → EReal) (r : Fin 4096)
    (l : Fin 1024) : EReal :=
  ∑ k : Fin 2048, x (ix2 r k) * w (ix2 k l)

section
open Cert.Kernel4Ideal Cert.Kernel4Ideal.Gen

/-- What a point stores at row `a`, column `l` of its block. -/
theorem block_apply (x0 : Vec Ideal S1024x2048 .f32) (x1 : Vec Ideal S2048x1024 .bf16) (a l : Fin 1024) :
    out0_2 x0 x1 (ix2 a l) = ∑ k : Fin 2048, x0 (ix2 a k) * x1 (ix2 k l) := by
  unfold out0_2
  canon_tiles x h
  obtain ⟨b, j, rfl⟩ : ∃ b j : Fin 1024, x = ix2 b j := ⟨x 0, x 1, eq_ix2 x⟩
  obtain rfl : a = b := Fin.ext h0
  obtain rfl : l = j := Fin.ext h1
  unfold_payloads
  pointwise []

variable (m : (ℓ : Loc nD τ sig) → Buf (Elt Ideal) ℓ)

/-- Where each window stands at point `t`: the rows and the result at block row `t`, the weights whole. -/
theorem idx : ∀ t : Fin grid0.N, win0_0.index t = ![t.val, 0] ∧ win0_1.index t = ![0, 0]
    ∧ win0_2.index t = ![t.val, 0] := by decide +kernel

/-- The result array after the grid: the product of the two arguments. -/
theorem final (c : Dev nD) : (dats m 0 c).arrAt 2 cfg0.N = fun i =>
    entry (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  obtain ⟨a, l, rfl⟩ : ∃ a l : Fin 1024, y = ix2 a l := ⟨y 0, y 1, eq_ix2 y⟩
  refine (block_apply (iblk m c 0 t) (iblk m c 1 t) a l).trans ?_
  refine Finset.sum_congr rfl fun k _ => congr (congrArg HMul.hMul ?_) ?_
  · blk_ext [iblk, V, idx t]
  · blk_ext! [iblk, V, idx t]

end

/-- The reference's frame, from its run. -/
theorem reference_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

section
open Cert.Reference4Ideal Cert.Reference4Ideal.Gen

/-- The reference's product at an entry. -/
theorem reference_apply (a : FVec Ideal S4096x2048 .f32) (b : FVec Ideal S2048x1024 .f32) (r : Fin 4096) (l : Fin 1024) :
    (truncf .bf16 (Host.dotGeneral dot_S4096x2048_S2048x1024_S4096x1024_1_0_0_1_n_n none a b) bitsLt_bf16_f32 : FVec Ideal S4096x1024 .bf16) (ix2 r l)
      = entry a b r l := by
  unfold entry
  pointwise []

end

/-- Both programs end with the same product. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [final m c]
  funext i
  obtain ⟨h0, h1⟩ := hagree c
  rw [h0, h1]
  exact (congrArg _ (eq_ix2 i)).trans (reference_apply _ _ (i 0) (i 1))

end Cert.Mem

end
-- ==== Proof.BiasSpec.lean ====
module

public import Idealize.ShloMosaic.Lib.StableHlo
public import Idealize.ShloMosaic.PureOps
public import Idealize.ShloMosaic.Lib.Pipeline.ValueKit
public import Idealize.ShloMosaic.Lib.Tactic.CleanTypes

/-! The relative bias of a block of queries over its three neighbouring blocks: what both programs compute. -/

@[expose] public section

set_option maxRecDepth 16384

noncomputable section

namespace Cert.Bias

open Idealize.ShloMosaic

/-- The table of biases, one row a bucket and one column a head. -/
abbrev Table : Type := (⟨2, ![32, 8]⟩ : Shape).Idx → EReal
/-- The bucket of each query and offset. -/
abbrev Buckets : Type := (⟨2, ![128, 384]⟩ : Shape).Idx → BitVec 32

/-- Query `t` of a block sees offset `j` in variant `v`: `j` lies in the window around the query, in the first block
    only in the even variants, in the last block only in the first two. -/
def Seen (v : Fin 4) (t : Fin 128) (j : Fin 384) : Prop :=
  (t.val ≤ j.val ∧ j.val ≤ t.val + 256) ∧ (v.val % 2 = 0 ∨ 128 ≤ j.val) ∧ (v.val < 2 ∨ j.val < 256)

instance (v : Fin 4) (t : Fin 128) (j : Fin 384) : Decidable (Seen v t j) := inferInstanceAs (Decidable (_ ∧ _))

/-- The row of the table a bucket names. -/
def row (w : BitVec 32) : Fin 32 := ⟨w.toNat % 32, Nat.mod_lt _ (by decide)⟩

/-- Every bucket names a row of the table. -/
def Named (b : Buckets) : Prop := ∀ t j, (b (ix2 t j)).toNat < 32

/-- The bias of head `h` in base two where the offset is seen, the mask's value elsewhere. -/
def biasAt (tab : Table) (b : Buckets) (v : Fin 4) (h : Fin 8) (t : Fin 128) (j : Fin 384) : EReal :=
  if Seen v t j then tab (ix2 (row (b (ix2 t j))) h) * (Scalar.ofBits .f32 0x3FB8AA3B#32 : Ideal .f32)
  else (Scalar.ofBits .f32 0xF149F2CA#32 : Ideal .f32)

/-- A truth word is one exactly when its proposition holds. -/
def Says (w : BitVec 1) (p : Prop) : Prop := w = 1 ↔ p

theorem Says.and {a b : BitVec 1} {p q : Prop} (ha : Says a p) (hb : Says b q) : Says (IntOp.andi a b) (p ∧ q) := by
  unfold Says at *
  rw [← ha, ← hb]
  clear ha hb
  revert a b
  decide

theorem Says.or {a b : BitVec 1} {p q : Prop} (ha : Says a p) (hb : Says b q) : Says (IntOp.ori a b) (p ∨ q) := by
  unfold Says at *
  rw [← ha, ← hb]
  clear ha hb
  revert a b
  decide

/-- A choice by a truth word is a choice by its proposition. -/
theorem Says.select {α : Type} {w : BitVec 1} {p : Prop} [Decidable p] (h : Says w p) (x y : α) :
    Scalar.select w x y = if p then x else y := by
  unfold Scalar.select
  by_cases hp : p
  · rw [if_pos (h.mpr hp), if_pos hp]
  · rw [if_neg (fun e => hp (h.mp e)), if_neg hp]

/-- The window's word. -/
theorem says_band (t : Fin 128) (j : Fin 384) :
    Says (IntOp.cmpi .sle (IntOp.absi (IntOp.subi (IntOp.subi (BitVec.ofNat 32 j.val) 128#32) (BitVec.ofNat 32 t.val))) 128#32)
      (t.val ≤ j.val ∧ j.val ≤ t.val + 256) := by
  have key : ∀ d : Fin 512, (IntOp.cmpi .sle (IntOp.absi (BitVec.ofInt 32 ((d.val : Int) - 255))) 128#32 = 1)
      ↔ 127 ≤ d.val ∧ d.val ≤ 383 := by decide +kernel
  have hd : j.val + 127 - t.val < 512 := by omega
  have e : IntOp.subi (IntOp.subi (BitVec.ofNat 32 j.val) 128#32) (BitVec.ofNat 32 t.val)
      = BitVec.ofInt 32 (((⟨j.val + 127 - t.val, hd⟩ : Fin 512).val : Int) - 255) := by
    have := t.isLt
    have := j.isLt
    apply BitVec.eq_of_toNat_eq
    simp only [IntOp.subi, BitVec.toNat_sub, BitVec.toNat_ofNat, BitVec.toNat_ofInt]
    omega
  unfold Says
  rw [e, key]
  show 127 ≤ j.val + 127 - t.val ∧ j.val + 127 - t.val ≤ 383 ↔ _
  omega

/-- The word of a lower bound on the offset. -/
theorem says_ge (j : Fin 384) : Says (IntOp.cmpi .sge (BitVec.ofNat 32 j.val) 128#32) (128 ≤ j.val) := by
  revert j
  unfold Says
  decide +kernel

/-- The word of an upper bound on the offset. -/
theorem says_lt (j : Fin 384) : Says (IntOp.cmpi .slt (BitVec.ofNat 32 j.val) 256#32) (j.val < 256) := by
  revert j
  unfold Says
  decide +kernel

/-- The lower bound that every offset meets. -/
theorem says_ge_zero (j : Fin 384) : Says (IntOp.cmpi .sge (BitVec.ofNat 32 j.val) 0#32) True := by
  revert j
  unfold Says
  decide +kernel

/-- The upper bound that every offset meets. -/
theorem says_lt_all (j : Fin 384) : Says (IntOp.cmpi .slt (BitVec.ofNat 32 j.val) 384#32) True := by
  revert j
  unfold Says
  decide +kernel

end Cert.Bias

end
-- ==== Proof.BiasKernel.lean ====
module

public import proofs.«01_k».proof.Proof.BiasSpec
public import proofs.«01_k».proof.Proof.Gen.Kernel5Ideal.Value

/-! The kernel of the relative bias: each head's choices over the buckets, masked for each variant. -/

@[expose] public section

set_option maxRecDepth 16384

noncomputable section

namespace Cert.Bias

open Idealize.ShloMosaic Idealize.ShloMosaic.TcCoe Idealize.SL.Sem
open Cert.Kernel5Ideal Cert.Kernel5Ideal.Gen

/-- A head's bias after its first `n` buckets: each bucket in turn replaces the entries that name it. -/
def chain (B : IVec S128x384 32) (e : Fin 32 → EReal) : (n : ℕ) → n ≤ 32 → FVec Ideal S128x384 .f32
  | 0, _ => broadcast S128x384 (Scalar.ofBits .f32 0x00000000#32 : Ideal .f32)
  | n + 1, h => select (cmpi .eq B (broadcast S128x384 (BitVec.ofNat 32 n))) (broadcast S128x384 (e ⟨n, h⟩))
      (chain B e n (Nat.le_of_succ_le h))

/-- Where the entry names one of the first `n` buckets, the chain holds that bucket's value. -/
theorem chain_apply (B : IVec S128x384 32) (e : Fin 32 → EReal) (i : S128x384.Idx) : ∀ (n : ℕ) (h : n ≤ 32) (hb : (B i).toNat < n),
    chain B e n h i = e ⟨(B i).toNat, hb.trans_le h⟩
  | n + 1, h, hb => by
    show Scalar.select (IntOp.cmpi .eq (B i) (BitVec.ofNat 32 n)) (e ⟨n, h⟩) (chain B e n (Nat.le_of_succ_le h) i) = _
    have hw : Says (IntOp.cmpi .eq (B i) (BitVec.ofNat 32 n)) ((B i).toNat = n) := by
      show BitVec.ofBool (B i == BitVec.ofNat 32 n) = 1 ↔ _
      constructor
      · intro q
        have q' : B i = BitVec.ofNat 32 n := by
          by_contra hne
          rw [beq_eq_false_iff_ne.mpr hne] at q
          exact absurd q (by decide)
        rw [q', BitVec.toNat_ofNat]
        exact Nat.mod_eq_of_lt (by omega)
      · intro q
        have q' : B i = BitVec.ofNat 32 n := by
          apply BitVec.eq_of_toNat_eq
          rw [q, BitVec.toNat_ofNat]
          exact (Nat.mod_eq_of_lt (by omega)).symm
        rw [q', beq_self_eq_true]
        rfl
    rw [hw.select]
    by_cases q : (B i).toNat = n
    · rw [if_pos q]
      exact congrArg e (Fin.ext q.symm)
    · rw [if_neg q]
      exact chain_apply B e i n _ (by omega)

/-- What a piece of the result holds: a head's bias in base two where the mask `M` allows it. -/
def masked (M : IVec S128x384 1) (C : FVec Ideal S128x384 .f32) : FVec Ideal S1x1x128x384 .f32 :=
  shapeCast S1x1x128x384
    (select M (mulf C (broadcast S128x384 (Scalar.ofBits .f32 0x3FB8AA3B#32 : Ideal .f32)))
      (broadcast S128x384 (Scalar.ofBits .f32 0xF149F2CA#32 : Ideal .f32)))
    shapeCasts_S128x384_S1x1x128x384

theorem masked_apply (M : IVec S128x384 1) (C : FVec Ideal S128x384 .f32) (t : Fin 128) (j : Fin 384) :
    masked M C (ix4 0 0 t j) = Scalar.select (M (ix2 t j)) (C (ix2 t j) * (Scalar.ofBits .f32 0x3FB8AA3B#32 : Ideal .f32))
      (Scalar.ofBits .f32 0xF149F2CA#32 : Ideal .f32) := by
  unfold masked
  pointwise []

/-! The four masks. -/

theorem says_mask0 (t : Fin 128) (j : Fin 384) : Says (k0_pay4 (ix2 t j)) (Seen 0 t j) := by
  unfold k0_pay4 k0_pay3
  pointwise []
  have h := ((says_band t j).and (says_ge_zero j)).and (says_lt_all j)
  exact h.trans (by unfold Seen; simp)

theorem says_mask1 (t : Fin 128) (j : Fin 384) : Says (k0_pay5 (ix2 t j)) (Seen 1 t j) := by
  unfold k0_pay5 k0_pay3
  pointwise []
  have h := ((says_band t j).and (says_ge j)).and (says_lt_all j)
  exact h.trans (by unfold Seen; simp)

theorem says_mask2 (t : Fin 128) (j : Fin 384) : Says (k0_pay6 (ix2 t j)) (Seen 2 t j) := by
  unfold k0_pay6 k0_pay3
  pointwise []
  have h := ((says_band t j).and (says_ge_zero j)).and (says_lt j)
  exact h.trans (by unfold Seen; simp)

theorem says_mask3 (t : Fin 128) (j : Fin 384) : Says (k0_pay7 (ix2 t j)) (Seen 3 t j) := by
  unfold k0_pay7 k0_pay3
  pointwise []
  have h := ((says_band t j).and (says_ge j)).and (says_lt j)
  exact h.trans (by unfold Seen; simp [and_assoc])

/-- The mask of a variant. -/
def mask (v : Fin 4) : IVec S128x384 1 := match v with
  | 0 => k0_pay4
  | 1 => k0_pay5
  | 2 => k0_pay6
  | 3 => k0_pay7

theorem says_mask (v : Fin 4) (t : Fin 128) (j : Fin 384) : Says (mask v (ix2 t j)) (Seen v t j) := by
  match v with
  | 0 => exact says_mask0 t j
  | 1 => exact says_mask1 t j
  | 2 => exact says_mask2 t j
  | 3 => exact says_mask3 t j

theorem inb_entry (k : Fin 32) (h : Fin 8) : ∀ a, (![k.val, h.val] : Fin 2 → ℕ) a + S1x1.size a ≤ S32x8.size a := by
  revert k h
  decide +kernel

section
variable (arg0 : Memref sig .tc .smem S32x8 .f32) (harg0 : arg0.IsWhole) (arg1 : Memref sig .tc .vmem S128x384 .i32) (harg1 : arg1.IsWhole)
  (x0 : Vec Ideal S32x8 .f32) (x1 : Vec Ideal S128x384 .i32)

/-- The read of bucket `k`'s bias for head `h`. -/
def entryOf (h : Fin 8) (k : Fin 32) : EReal :=
  View.readAt (Elt Ideal) arg0.view (Rect.unit (s := S32x8) ![k.val, h.val] S1x1.size (inb_entry k h)).toLoadRect (harg0.unread x0)
    (Shape.Idx.first (s := S1x1) (Nat.lt_of_lt_of_eq Nat.one_pos numel1_S1x1.symm))

theorem entryOf_eq (h : Fin 8) (k : Fin 32) : entryOf arg0 harg0 x0 h k = x0 (ix2 k h) := by
  unfold entryOf
  rw [View.readAt_apply, harg0.read_unread]
  congr 1
  funext a
  apply Fin.ext
  fin_cases a <;> rfl

/-- The buckets as read. -/
def bucketsOf : IVec S128x384 32 :=
  View.readAt (Elt Ideal) arg1.view (Rect.unit (s := S128x384) ![0, 0] S128x384.size inb_S128x384_S128x384_0_0).toLoadRect (harg1.unread x1)

theorem bucketsOf_eq : bucketsOf arg1 harg1 x1 = x1 := by
  funext i
  unfold bucketsOf
  rw [View.readAt_apply, harg1.read_unread]
  congr 1
  funext a
  apply Fin.ext
  fin_cases a
  · show 0 + 1 * (i 0).val = (i 0).val
    omega
  · show 0 + 1 * (i 1).val = (i 1).val
    omega

/-- The result, at an index of its array. -/
def result (y : S4x8x128x384.Idx) : Elt Ideal .f32 := biasAt x0 x1 (y 0) (y 1) (y 2) (y 3)

/-- A stored piece agrees with the result. -/
theorem piece (hn : Named x1) (v : Fin 4) (h : Fin 8)
    (inb : ∀ a, (![v.val, h.val, 0, 0] : Fin 4 → ℕ) a + S1x1x128x384.size a ≤ S4x8x128x384.size a) (x : S1x1x128x384.Idx) :
    masked (mask v) (chain (bucketsOf arg1 harg1 x1) (entryOf arg0 harg0 x0 h) 32 le_rfl) x
      = result x0 x1 ((Rect.unit (s := S4x8x128x384) ![v.val, h.val, 0, 0] S1x1x128x384.size inb).emb x) := by
  obtain ⟨t, j, rfl⟩ : ∃ (t : Fin 128) (j : Fin 384), x = ix4 0 0 t j :=
    ⟨x 2, x 3, by funext a; apply Fin.ext; fin_cases a <;> first | rfl | exact Nat.lt_one_iff.mp (x _).isLt⟩
  rw [masked_apply, (says_mask v t j).select, bucketsOf_eq, chain_apply _ _ _ _ _ (hn t j), entryOf_eq]
  unfold result
  have e : (Rect.unit (s := S4x8x128x384) ![v.val, h.val, 0, 0] S1x1x128x384.size inb).emb (ix4 0 0 t j) = ix4 v h t j := by
    funext a
    apply Fin.ext
    fin_cases a
    · show v.val + 1 * 0 = v.val
      omega
    · show h.val + 1 * 0 = h.val
      omega
    · show 0 + 1 * t.val = t.val
      omega
    · show 0 + 1 * j.val = j.val
      omega
  rw [e]
  show _ = biasAt x0 x1 v h t j
  unfold biasAt
  have r : (⟨(x1 (ix2 t j)).toNat, hn t j⟩ : Fin 32) = row (x1 (ix2 t j)) := Fin.ext (Nat.mod_eq_of_lt (hn t j)).symm
  rw [r]

theorem inb_place (v : Fin 4) (h : Fin 8) :
    ∀ a, (![v.val, h.val, 0, 0] : Fin 4 → ℕ) a + S1x1x128x384.size a ≤ S4x8x128x384.size a := by
  revert v h
  decide +kernel

/-- The variant and head of each stored piece, the last stored first. -/
def order : List (Fin 4 × Fin 8) :=
  ([7, 6, 5, 4, 3, 2, 1, 0] : List (Fin 8)).flatMap fun h => ([3, 2, 1, 0] : List (Fin 4)).map fun v => (v, h)

/-- The place of a variant and head. -/
def place (q : Fin 4 × Fin 8) : Rect S4x8x128x384 :=
  Rect.unit (s := S4x8x128x384) ![q.1.val, q.2.val, 0, 0] S1x1x128x384.size (inb_place q.1 q.2)

/-- The places cover the result. -/
theorem place_cover (y : S4x8x128x384.Idx) : ∃ q ∈ order, y ∈ (place q).set := by
  obtain ⟨p, hp, hy⟩ := View.cover_of_tiledBy (Val := fun _ => Unit) (e := .f32) (order.map fun q => ⟨place q, fun _ => ()⟩)
    ![1, 1, 128, 384] (by decide +kernel) y
  obtain ⟨q, hq, rfl⟩ := List.mem_map.mp hp
  exact ⟨q, hq, hy⟩

/-- The stored pieces. -/
def pieces : List (View.Piece (Elt Ideal) S4x8x128x384 .f32) :=
  order.map fun q => ⟨place q, masked (mask q.1) (chain (bucketsOf arg1 harg1 x1) (entryOf arg0 harg0 x0 q.2) 32 le_rfl)⟩

set_option maxHeartbeats 4000000 in
/-- The run stores these pieces. -/
theorem run_pieces (c : Dev nD) (arg2 : Memref sig .tc .vmem S4x8x128x384 .f32) (harg2 : arg2.IsWhole) :
    (kernelRun0_A c arg0 harg0 arg1 harg1 arg2 harg2 x0 x1).1 = pieces arg0 harg0 arg1 harg1 x0 x1 := by
  unfold kernelRun0_A
  rfl

/-- What the body leaves in the result's buffer. -/
theorem out_eq (c : Dev nD) (arg2 : Memref sig .tc .vmem S4x8x128x384 .f32) (harg2 : arg2.IsWhole) (hn : Named x1) :
    out0_A_2 c arg0 harg0 arg1 harg1 arg2 harg2 x0 x1 = result x0 x1 := by
  funext y
  unfold out0_A_2
  rw [run_pieces]
  refine View.read_writes_apply_of_pieces _ _ _ _ (fun p hp x => ?_) y ?_
  · obtain ⟨q, -, rfl⟩ := List.mem_map.mp hp
    exact piece arg0 harg0 arg1 harg1 x0 x1 hn q.1 q.2 (inb_place q.1 q.2) x
  · obtain ⟨q, hq, hy⟩ := place_cover y
    exact ⟨_, List.mem_map_of_mem hq, hy⟩

end

end Cert.Bias

end
-- ==== Proof.BiasRef.lean ====
module

public import proofs.«01_k».proof.Defs
public import proofs.«01_k».proof.Proof.BiasSpec
public import proofs.«01_k».proof.Proof.Gen.Reference5Ideal.Run

/-! The reference of the relative bias, at an entry. -/

@[expose] public section

set_option maxRecDepth 16384

noncomputable section

namespace Cert.Bias

open Idealize.ShloMosaic Idealize.ShloMosaic.TcCoe Idealize.SL.Sem

/-- The reference's frame, from its run. -/
theorem reference_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

section
open Cert.Reference5Ideal Cert.Reference5Ideal.Gen

/-- The look-up of a row of the table. -/
theorem gather_apply (a : FVec Ideal S32x8 .f32) (s : IVec S128x384x1 32) (t : Fin 128) (j : Fin 384) (h : Fin 8)
    (hs : (s (ix3 t j 0)).toNat < 32) :
    Host.gather gather_S32x8_S128x384x1_S128x384x8_2_0_n_n_0_2_18 a s (ix3 t j h) = a (ix2 (row (s (ix3 t j 0))) h) := by
  have e : gather_S32x8_S128x384x1_S128x384x8_2_0_n_n_0_2_18.siIdx (ix3 t j h) ⟨0, by decide⟩ = ix3 t j 0 := by
    funext b
    apply Fin.ext
    fin_cases b <;> rfl
  have hi : (s (ix3 t j 0)).toInt.toNat = (s (ix3 t j 0)).toNat := by
    rw [BitVec.toInt_eq_toNat_of_lt (by omega)]
    rfl
  show a _ = a _
  congr 1
  funext b
  apply Fin.ext
  fin_cases b
  · show min (s (gather_S32x8_S128x384x1_S128x384x8_2_0_n_n_0_2_18.siIdx (ix3 t j h) ⟨0, by decide⟩)).toInt.toNat 31 + 0 + 0 = _ % 32
    rw [e, hi]
    omega
  · show 0 + 0 + h.val = h.val
    omega

/-- The divisor of the variant's parity. -/
abbrev two : BitVec 32 := Scalar.select (IntOp.cmpi .eq 2#32 0#32) 1#32 2#32

/-- The remainder of the variant, as a signed remainder corrected to the divisor's sign. -/
abbrev parity (v : Fin 4) : BitVec 32 :=
  Scalar.select (IntOp.andi (IntOp.cmpi .ne (IntOp.cmpi .slt (IntOp.remsi .host (BitVec.ofNat 32 v.val) two) 0#32) (IntOp.cmpi .slt two 0#32))
      (IntOp.cmpi .ne (IntOp.remsi .host (BitVec.ofNat 32 v.val) two) 0#32))
    (IntOp.addi (IntOp.remsi .host (BitVec.ofNat 32 v.val) two) two) (IntOp.remsi .host (BitVec.ofNat 32 v.val) two)

/-- An even variant's word. -/
theorem says_even (v : Fin 4) : Says (IntOp.cmpi .eq (parity v) 0#32) (v.val % 2 = 0) := by
  revert v
  unfold Says
  decide +kernel

/-- The word of a variant below two. -/
theorem says_low (v : Fin 4) : Says (IntOp.cmpi .slt (BitVec.ofNat 32 v.val) 2#32) (v.val < 2) := by
  revert v
  unfold Says
  decide +kernel

/-- The word the look-up reads: the bucket itself, which is not negative. -/
theorem start_apply (b : IVec S128x384 32) (hb : Named b) (t : Fin 128) (j : Fin 384) :
    (broadcastInDim S128x384x1 ![0, 1] bcast_S128x384_S128x384x1_0_1
        (select (cmpi .slt b (broadcastInDim S128x384 ![] bcast_S_S128x384 (constantI S_ 32 0#32)))
          (addi b (broadcastInDim S128x384 ![] bcast_S_S128x384 (constantI S_ 32 32#32))) b)) (ix3 t j 0)
      = b (ix2 t j) := by
  pointwise []
  have h := hb t j
  have e : IntOp.cmpi .slt (b (ix2 t j)) 0#32 = 0 := by
    generalize b (ix2 t j) = w at h ⊢
    have : w.slt 0#32 = false := by
      rw [BitVec.slt_eq_decide, BitVec.toInt_eq_toNat_of_lt (by omega)]
      simp
    show BitVec.ofBool (w.slt 0#32) = 0
    rw [this]
    rfl
  rw [e]
  rfl

/-- The reference's result at an entry. -/
theorem reference_apply (a : FVec Ideal S32x8 .f32) (b : IVec S128x384 32) (hb : Named b) (v : Fin 4) (h : Fin 8) (t : Fin 128) (j : Fin 384) :
  (select (broadcastInDim S4x8x128x384 ![0, 1, 2, 3] bcast_S4x1x128x384_S4x8x128x384_0_1_2_3 (andi (broadcastInDim S4x1x128x384 ![0, 1, 2, 3] bcast_S1x1x128x384_S4x1x128x384_0_1_2_3 (cmpi .sle (absi (subi (subi (iotaInDim S1x1x128x384 32 3) (broadcastInDim S1x1x128x384 ![] bcast_S_S1x1x128x384 (constantI S_ 32 128#32))) (iotaInDim S1x1x128x384 32 2))) (broadcastInDim S1x1x128x384 ![] bcast_S_S1x1x128x384 (constantI S_ 32 128#32)))) (andi (ori (broadcastInDim S4x1x128x384 ![0, 1, 2, 3] bcast_S4x1x1x1_S4x1x128x384_0_1_2_3 (cmpi .eq (select (andi (cmpi .ne (cmpi .slt (Host.remsi (iotaInDim S4x1x1x1 32 0) (broadcastInDim S4x1x1x1 ![] bcast_S_S4x1x1x1 (select (cmpi .eq (id (constantI S_ 32 2#32)) (constantI S_ 32 0#32)) (constantI S_ 32 1#32) (id (constantI S_ 32 2#32))))) (broadcastInDim S4x1x1x1 ![] bcast_S_S4x1x1x1 (constantI S_ 32 0#32))) (broadcastInDim S4x1x1x1 ![] bcast_S_S4x1x1x1 (cmpi .slt (select (cmpi .eq (id (constantI S_ 32 2#32)) (constantI S_ 32 0#32)) (constantI S_ 32 1#32) (id (constantI S_ 32 2#32))) (constantI S_ 32 0#32)))) (cmpi .ne (Host.remsi (iotaInDim S4x1x1x1 32 0) (broadcastInDim S4x1x1x1 ![] bcast_S_S4x1x1x1 (select (cmpi .eq (id (constantI S_ 32 2#32)) (constantI S_ 32 0#32)) (constantI S_ 32 1#32) (id (constantI S_ 32 2#32))))) (broadcastInDim S4x1x1x1 ![] bcast_S_S4x1x1x1 (constantI S_ 32 0#32)))) (addi (Host.remsi (iotaInDim S4x1x1x1 32 0) (broadcastInDim S4x1x1x1 ![] bcast_S_S4x1x1x1 (select (cmpi .eq (id (constantI S_ 32 2#32)) (constantI S_ 32 0#32)) (constantI S_ 32 1#32) (id (constantI S_ 32 2#32))))) (broadcastInDim S4x1x1x1 ![] bcast_S_S4x1x1x1 (select (cmpi .eq (id (constantI S_ 32 2#32)) (constantI S_ 32 0#32)) (constantI S_ 32 1#32) (id (constantI S_ 32 2#32))))) (Host.remsi (iotaInDim S4x1x1x1 32 0) (broadcastInDim S4x1x1x1 ![] bcast_S_S4x1x1x1 (select (cmpi .eq (id (constantI S_ 32 2#32)) (constantI S_ 32 0#32)) (constantI S_ 32 1#32) (id (constantI S_ 32 2#32)))))) (broadcastInDim S4x1x1x1 ![] bcast_S_S4x1x1x1 (constantI S_ 32 0#32)))) (broadcastInDim S4x1x128x384 ![0, 1, 2, 3] bcast_S1x1x128x384_S4x1x128x384_0_1_2_3 (cmpi .sge (iotaInDim S1x1x128x384 32 3) (broadcastInDim S1x1x128x384 ![] bcast_S_S1x1x128x384 (constantI S_ 32 128#32))))) (ori (broadcastInDim S4x1x128x384 ![0, 1, 2, 3] bcast_S4x1x1x1_S4x1x128x384_0_1_2_3 (cmpi .slt (iotaInDim S4x1x1x1 32 0) (broadcastInDim S4x1x1x1 ![] bcast_S_S4x1x1x1 (constantI S_ 32 2#32)))) (broadcastInDim S4x1x128x384 ![0, 1, 2, 3] bcast_S1x1x128x384_S4x1x128x384_0_1_2_3 (cmpi .slt (iotaInDim S1x1x128x384 32 3) (broadcastInDim S1x1x128x384 ![] bcast_S_S1x1x128x384 (constantI S_ 32 256#32)))))))) (broadcastInDim S4x8x128x384 ![0, 1, 2, 3] bcast_S1x8x128x384_S4x8x128x384_0_1_2_3 (mulf (broadcastInDim S1x8x128x384 ![1, 2, 3] bcast_S8x128x384_S1x8x128x384_1_2_3 (transpose S8x128x384 [2, 0, 1] (Host.gather gather_S32x8_S128x384x1_S128x384x8_2_0_n_n_0_2_18 a (broadcastInDim S128x384x1 ![0, 1] bcast_S128x384_S128x384x1_0_1 (select (cmpi .slt b (broadcastInDim S128x384 ![] bcast_S_S128x384 (constantI S_ 32 0#32))) (addi b (broadcastInDim S128x384 ![] bcast_S_S128x384 (constantI S_ 32 32#32))) b))) transposes_S128x384x8_S8x128x384_2_0_1)) (broadcastInDim S1x8x128x384 ![] bcast_S_S1x8x128x384 (constant S_ .f32 0x3FB8AA3B#32)))) (broadcastInDim S4x8x128x384 ![] bcast_S_S4x8x128x384 (id (constant S_ .f32 0xF149F2CA#32))) : FVec Ideal S4x8x128x384 .f32)
    (ix4 v h t j) = biasAt a b v h t j := by
  pointwise []
  refine (((says_band t j).and (((says_even v).or (says_ge j)).and ((says_low v).or (says_lt j)))).select _ _).trans ?_
  have g := start_apply b hb t j
  rw [gather_apply a _ t j h (by rw [g]; exact hb t j), g]
  rfl

end

end Cert.Bias

end
-- ==== Proof.BiasClaim.lean ====
module

public import proofs.«01_k».proof.Defs
public import proofs.«01_k».proof.Proof.BiasKernel
public import proofs.«01_k».proof.Proof.BiasRef

/-! The relative bias: chosen bucket by bucket against looked up in the table. -/

@[expose] public section

set_option maxRecDepth 16384

noncomputable section

namespace Cert.Bias

open Idealize.ShloMosaic Idealize.ShloMosaic.TcCoe Idealize.SL.Sem

section
open Cert.Pre_bucket_named

/-- The side condition of the precondition's text. -/
instance named_facts : Cert.Pre_bucket_named.Facts := ⟨by decide⟩

/-- The precondition, read: every bucket names a row of the table. -/
theorem named_of_pre (a : FVec Ideal S32x8 .f32) (b : IVec S128x384 32) (h : fn (F := Ideal) a b = fun _ => 1#1) : Named b := by
  intro t j
  have e := congrFun h (ix2 t j)
  unfold fn at e
  pointwise [] at e
  generalize b (ix2 t j) = w at e ⊢
  have hand : ∀ p q : BitVec 1, IntOp.andi p q = 1#1 → p = 1#1 ∧ q = 1#1 := by decide
  have hof : ∀ p : Bool, BitVec.ofBool p = 1#1 → p = true := by decide
  obtain ⟨h0, h1⟩ := hand _ _ e
  have g0 : (0#32).sle w = true := hof _ h0
  have g1 : w.slt 32#32 = true := hof _ h1
  rw [BitVec.sle_eq_decide, decide_eq_true_eq] at g0
  rw [BitVec.slt_eq_decide, decide_eq_true_eq] at g1
  have z : (0#32).toInt = 0 := by decide
  have u : (32#32).toInt = 32 := by decide
  rw [z] at g0
  rw [u] at g1
  have s := w.toInt_eq_toNat_cond
  split at s <;> omega

end

section
open Cert.Kernel5Ideal Cert.Kernel5Ideal.Gen

variable (m : (ℓ : Loc nD τ sig) → Buf (Elt Ideal) ℓ)

/-- Every window stands at the start of its array. -/
theorem idx : ∀ t : Fin grid0.N, win0_0.index t = ![0, 0] ∧ win0_1.index t = ![0, 0]
    ∧ win0_2.index t = ![0, 0, 0, 0] := by decide +kernel

theorem table_block (c : Dev nD) (t : Fin cfg0.N) : iblk m c 0 t = m ((c.tc : Thread nD τ).loc main_arg0) := by
  funext i
  blk_ext [iblk, V, idx t]

theorem bucket_block (c : Dev nD) (t : Fin cfg0.N) : iblk m c 1 t = m ((c.tc : Thread nD τ).loc main_arg1) := by
  funext i
  blk_ext [iblk, V, idx t]

/-- The result array after the run. -/
theorem final (c : Dev nD) (hn : Named (m ((c.tc : Thread nD τ).loc main_arg1))) :
    (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  rw [table_block, bucket_block, out_eq _ _ _ _ _ _ _ _ _ hn]
  blk_ext [idx t]

end

/-- The kernel's frame, under the precondition too. -/
theorem kernel_frame_named : Cert.quiescent_Kernel5Ideal_pre_bucket_named := fun m ρ _ => Cert.Kernel5Ideal.Gen.frame m ρ

/-- The reference's frame, under the precondition too. -/
theorem reference_frame_named : Cert.quiescent_Reference5Ideal_pre_bucket_named := fun m ρ _ => reference_frame m ρ trivial

/-- Both programs end with the same bias. -/
theorem algebraic : Cert.algebraic_Kernel5Ideal_Reference5Ideal_pre_bucket_named := by
  intro m ρ m' ρ' hpre hagree
  have hn := fun c => named_of_pre _ _ (hpre c)
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  rw [final m c (hn c)]
  funext i
  obtain ⟨h0, h1⟩ := hagree c
  rw [h0, h1]
  exact (congrArg _ (eq_ix4 i)).trans (reference_apply _ _ (hn c) (i 0) (i 1) (i 2) (i 3))

end Cert.Bias

end
-- ==== Proof.lean ====
/- The certificate's claims, each from the module that proves it. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Kernel5Ideal.Value
public import proofs.«01_k».proof.Proof.Gen.Reference5Ideal.Run
public import proofs.«01_k».proof.Proof.MergeClaim
public import proofs.«01_k».proof.Proof.FfnBits
public import proofs.«01_k».proof.Proof.FfnClaim
public import proofs.«01_k».proof.Proof.MemClaim
public import proofs.«01_k».proof.Proof.BiasClaim

@[expose] public section

noncomputable section

namespace Cert.Proof

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Bias.named_facts,
  fun m ρ _ => Cert.Kernel2.Gen.frame m ρ,
  fun m ρ _ => Cert.Kernel2Ideal.Gen.frame m ρ,
  Cert.Merge.reference_frame,
  fun m ρ _ => Cert.FfnBits.run m ρ,
  Cert.Ffn.kernel_frame,
  Cert.Ffn.reference_frame,
  fun m ρ _ => Cert.Kernel4.Gen.frame m ρ,
  fun m ρ _ => Cert.Kernel4Ideal.Gen.frame m ρ,
  Cert.Mem.reference_frame,
  fun m ρ _ => Cert.Kernel5.Gen.frame m ρ,
  fun m ρ _ => Cert.Kernel5Ideal.Gen.frame m ρ,
  Cert.Bias.kernel_frame_named,
  Cert.Bias.reference_frame,
  Cert.Bias.reference_frame_named,
  trivial,
  Cert.Merge.algebraic,
  trivial,
  Cert.Ffn.algebraic,
  trivial,
  Cert.Mem.algebraic,
  trivial,
  Cert.Bias.algebraic⟩

end Cert.Proof

end
